-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "clamp2" .f32 0xC31044FE#32 ((-(100 * (Real.log 2)⁻¹) : ℝ) : EReal)
  ∧ IdealRules.named_const.Statement Cert.KernelIdeal.κ "ln2" .f32 0x3F317218#32 ((Real.log 2 : ℝ) : EReal)

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S4096x4096 : Shape := ⟨2, ![4096, 4096]⟩
abbrev S10 : Shape := ⟨1, ![10]⟩
abbrev S_ : Shape := ⟨0, ![]⟩

class Facts : Prop where
  bcast_S_S4096x4096 : S_.BroadcastsInDim S4096x4096 (![] : Fin 0 → Fin S4096x4096.rank)
  bcast_S_S10 : S_.BroadcastsInDim S10 (![] : Fin 0 → Fin S10.rank)

variable [Facts]

def fn {F : FTy → Type} [FloatOps F] (main_arg0 : FVec F S4096x4096 .f32) (main_arg1 : FVec F S4096x4096 .f32) (main_arg2 : FVec F S4096x4096 .f32) (main_arg3 : FVec F S10 .f32) : IVec S4096x4096 1 × IVec S4096x4096 1 × IVec S4096x4096 1 × IVec S4096x4096 1 × IVec S10 1 :=
  let main_cst : FVec F S_ .f32 := constant S_ .f32 0x00000000#32
  let main_v0 : FVec F S4096x4096 .f32 := broadcastInDim S4096x4096 ![] bcast_S_S4096x4096 main_cst
  let main_v1 : IVec S4096x4096 1 := cmpf .oge main_arg1 main_v0
  let main_cst_0 : FVec F S_ .f32 := constant S_ .f32 0x3F800000#32
  let main_v2 : FVec F S4096x4096 .f32 := broadcastInDim S4096x4096 ![] bcast_S_S4096x4096 main_cst_0
  let main_v3 : IVec S4096x4096 1 := cmpf .ole main_arg1 main_v2
  let main_v4 : FVec F S4096x4096 .f32 := subf main_arg0 main_arg1
  let main_v5 : FVec F S4096x4096 .f32 := Host.absf main_v4
  let main_cst_1 : FVec F S_ .f32 := constant S_ .f32 0x3F800000#32
  let main_v6 : FVec F S4096x4096 .f32 := broadcastInDim S4096x4096 ![] bcast_S_S4096x4096 main_cst_1
  let main_v7 : IVec S4096x4096 1 := cmpf .olt main_v5 main_v6
  let main_cst_2 : FVec F S_ .f32 := constant S_ .f32 0x3F800000#32
  let main_v8 : FVec F S4096x4096 .f32 := broadcastInDim S4096x4096 ![] bcast_S_S4096x4096 main_cst_2
  let main_v9 : IVec S4096x4096 1 := cmpf .oeq main_arg2 main_v8
  let main_cst_3 : FVec F S_ .f32 := constant S_ .f32 0x00000000#32
  let main_v10 : FVec F S10 .f32 := broadcastInDim S10 ![] bcast_S_S10 main_cst_3
  let main_v11 : IVec S10 1 := cmpf .une main_arg3 main_v10
  (main_v1, main_v3, main_v7, main_v9, main_v11)
-- ==== Kernel.lean ====
abbrev S4096x4096 : Shape := ⟨2, ![4096, 4096]⟩
abbrev S10 : Shape := ⟨1, ![10]⟩
abbrev S1 : Shape := ⟨1, ![1]⟩
abbrev S256x4096 : Shape := ⟨2, ![256, 4096]⟩
abbrev S2x10 : Shape := ⟨2, ![2, 10]⟩
abbrev S8x4096 : Shape := ⟨2, ![8, 4096]⟩
abbrev S10x8x128 : Shape := ⟨3, ![10, 8, 128]⟩
abbrev S1x1 : Shape := ⟨2, ![1, 1]⟩
abbrev S8x128 : Shape := ⟨2, ![8, 128]⟩
abbrev S1x8x128 : Shape := ⟨3, ![1, 8, 128]⟩
abbrev S1x256x4096 : Shape := ⟨3, ![1, 256, 4096]⟩
abbrev S1x1x1 : Shape := ⟨3, ![1, 1, 1]⟩
abbrev S1x8x4096 : Shape := ⟨3, ![1, 8, 4096]⟩
abbrev S_ : Shape := ⟨0, ![]⟩

abbrev nBuf : Space → Nat
  | .hbm => 7
  | .vmem => 7
  | .smem => 5
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S10, .f32⟩
  | .hbm, ⟨4, _⟩ => ⟨S1, .f32⟩
  | .hbm, ⟨5, _⟩ => ⟨S10, .f32⟩
  | .hbm, ⟨6, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S8x4096, .i32⟩
  | .local _ .vmem, ⟨5, _⟩ => ⟨S8x4096, .f32⟩
  | .local _ .vmem, ⟨6, _⟩ => ⟨S10x8x128, .f32⟩
  | .local _ .smem, ⟨0, _⟩ => ⟨S10, .f32⟩
  | .local _ .smem, ⟨1, _⟩ => ⟨S1, .f32⟩
  | .local _ .smem, ⟨2, _⟩ => ⟨S10, .f32⟩
  | .local _ .smem, ⟨3, _⟩ => ⟨S2x10, .f32⟩
  | .local _ .smem, ⟨4, _⟩ => ⟨S1, .i32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg0_0 : Ref sig .tc := ⟨.smem, 0, rfl⟩
abbrev cc0_stg3_0 : Ref sig .tc := ⟨.smem, 1, rfl⟩
abbrev cc0_stg4_0 : Ref sig .tc := ⟨.smem, 2, rfl⟩
abbrev cc0_scratch0 : Ref sig .tc := ⟨.smem, 3, rfl⟩
abbrev cc0_scratch1 : Ref sig .tc := ⟨.smem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_cond4 (i : grid0.Coords) : BitVec 1 :=
  let arg0 : BitVec 32 := BitVec.ofNat 32 (i 0).val
  let c15_i32 : BitVec 32 := 15#32
  let v10 : BitVec 1 := Scalar.cmpi .eq arg0 c15_i32
  let v11 : BitVec 32 := Scalar.extui v10
  let c0_i32_3 : BitVec 32 := 0#32
  let v12 : BitVec 1 := Scalar.cmpi .ne v11 c0_i32_3
  v12

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "clamp2" => some ((-(100 * (Real.log 2)⁻¹) : ℝ) : EReal)
  | "inv_ln2" => some (((Real.log 2)⁻¹ : ℝ) : EReal)
  | "ln2" => some ((Real.log 2 : ℝ) : EReal)
  | _ => none
-- ==== ReferenceIdeal.lean ====
abbrev S4096x4096 : Shape := ⟨2, ![4096, 4096]⟩
abbrev S10 : Shape := ⟨1, ![10]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩
abbrev S16777216 : Shape := ⟨1, ![16777216]⟩
abbrev S16777216x1 : Shape := ⟨2, ![16777216, 1]⟩

abbrev nBuf : Space → Nat
  | .hbm => 119
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S10, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S4096x4096, .i32⟩
  | .hbm, ⟨39, _⟩ => ⟨S4096x4096, .i32⟩
  | .hbm, ⟨40, _⟩ => ⟨S_, .i32⟩
  | .hbm, ⟨41, _⟩ => ⟨S4096x4096, .i32⟩
  | .hbm, ⟨42, _⟩ => ⟨S4096x4096, .i32⟩
  | .hbm, ⟨43, _⟩ => ⟨S_, .i32⟩
  | .hbm, ⟨44, _⟩ => ⟨S4096x4096, .i32⟩
  | .hbm, ⟨45, _⟩ => ⟨S4096x4096, .i1⟩
  | .hbm, ⟨46, _⟩ => ⟨S_, .i32⟩
  | .hbm, ⟨47, _⟩ => ⟨S4096x4096, .i32⟩
  | .hbm, ⟨48, _⟩ => ⟨S4096x4096, .i32⟩
  | .hbm, ⟨49, _⟩ => ⟨S4096x4096, .i32⟩
  | .hbm, ⟨50, _⟩ => ⟨S4096x4096x1, .i32⟩
  | .hbm, ⟨51, _⟩ => ⟨S1, .i32⟩
  | .hbm, ⟨52, _⟩ => ⟨S_, .i32⟩
  | .hbm, ⟨53, _⟩ => ⟨S4096x4096x1, .i32⟩
  | .hbm, ⟨54, _⟩ => ⟨S4096x4096x1, .i1⟩
  | .hbm, ⟨55, _⟩ => ⟨S1x1x1, .i32⟩
  | .hbm, ⟨56, _⟩ => ⟨S4096x4096x1, .i32⟩
  | .hbm, ⟨57, _⟩ => ⟨S4096x4096x1, .i1⟩
  | .hbm, ⟨58, _⟩ => ⟨S4096x4096x1, .i1⟩
  | .hbm, ⟨59, _⟩ => ⟨S_, .i1⟩
  | .hbm, ⟨60, _⟩ => ⟨S4096x4096, .i1⟩
  | .hbm, ⟨61, _⟩ => ⟨S4096x4096, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S16777216, .i32⟩
  | .hbm, ⟨78, _⟩ => ⟨S16777216, .f32⟩
  | .hbm, ⟨79, _⟩ => ⟨S_, .f32⟩
  | .hbm, ⟨80, _⟩ => ⟨S10, .f32⟩
  | .hbm, ⟨81, _⟩ => ⟨S_, .i32⟩
  | .hbm, ⟨82, _⟩ => ⟨S_, .i32⟩
  | .hbm, ⟨83, _⟩ => ⟨S16777216, .i32⟩
  | .hbm, ⟨84, _⟩ => ⟨S16777216, .i32⟩
  | .hbm, ⟨85, _⟩ => ⟨S_, .i32⟩
  | .hbm, ⟨86, _⟩ => ⟨S16777216, .i32⟩
  | .hbm, ⟨87, _⟩ => ⟨S16777216, .i1⟩
  | .hbm, ⟨88, _⟩ => ⟨S_, .i32⟩
  | .hbm, ⟨89, _⟩ => ⟨S16777216, .i32⟩
  | .hbm, ⟨90, _⟩ => ⟨S16777216, .i32⟩
  | .hbm, ⟨91, _⟩ => ⟨S16777216, .i32⟩
  | .hbm, ⟨92, _⟩ => ⟨S16777216x1, .i32⟩
  | .hbm, ⟨93, _⟩ => ⟨S10, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S10, .f32⟩
  | .hbm, ⟨99, _⟩ => ⟨S10, .f32⟩
  | .hbm, ⟨100, _⟩ => ⟨S_, .f32⟩
  | .hbm, ⟨101, _⟩ => ⟨S10, .f32⟩
  | .hbm, ⟨102, _⟩ => ⟨S10, .f32⟩
  | .hbm, ⟨103, _⟩ => ⟨S_, .f32⟩
  | .hbm, ⟨104, _⟩ => ⟨S10, .f32⟩
  | .hbm, ⟨105, _⟩ => ⟨S10, .f32⟩
  | .hbm, ⟨106, _⟩ => ⟨S_, .f32⟩
  | .hbm, ⟨107, _⟩ => ⟨S10, .f32⟩
  | .hbm, ⟨108, _⟩ => ⟨S10, .f32⟩
  | .hbm, ⟨109, _⟩ => ⟨S10, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S10, .f32⟩
  | .hbm, ⟨115, _⟩ => ⟨S10, .f32⟩
  | .hbm, ⟨116, _⟩ => ⟨S_, .f32⟩
  | .hbm, ⟨117, _⟩ => ⟨S10, .f32⟩
  | .hbm, ⟨118, _⟩ => ⟨S10, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_c_5 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v20 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_cst : Ref sig .tc := ⟨.hbm, 62, rfl⟩
abbrev main_call2_v14 : Ref sig .tc := ⟨.hbm, 63, rfl⟩
abbrev main_v21 : Ref sig .tc := ⟨.hbm, 64, rfl⟩
abbrev main_cst_6 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_7 : Ref sig .tc := ⟨.hbm, 70, rfl⟩
abbrev main_v26 : Ref sig .tc := ⟨.hbm, 71, rfl⟩
abbrev main_cst_8 : Ref sig .tc := ⟨.hbm, 72, rfl⟩
abbrev main_v27 : Ref sig .tc := ⟨.hbm, 73, rfl⟩
abbrev main_cst_9 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_cst_10 : Ref sig .tc := ⟨.hbm, 79, rfl⟩
abbrev main_v32 : Ref sig .tc := ⟨.hbm, 80, rfl⟩
abbrev main_c_11 : Ref sig .tc := ⟨.hbm, 81, rfl⟩
abbrev main_call3_v0 : Ref sig .tc := ⟨.hbm, 82, rfl⟩
abbrev main_call3_v1 : Ref sig .tc := ⟨.hbm, 83, rfl⟩
abbrev main_v33 : Ref sig .tc := ⟨.hbm, 84, rfl⟩
abbrev main_c_12 : Ref sig .tc := ⟨.hbm, 85, rfl⟩
abbrev main_v34 : Ref sig .tc := ⟨.hbm, 86, rfl⟩
abbrev main_v35 : Ref sig .tc := ⟨.hbm, 87, rfl⟩
abbrev main_c_13 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_cst_14 : Ref sig .tc := ⟨.hbm, 94, rfl⟩
abbrev main_v41 : Ref sig .tc := ⟨.hbm, 95, rfl⟩
abbrev main_cst_15 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_cst_16 : Ref sig .tc := ⟨.hbm, 100, rfl⟩
abbrev main_v45 : Ref sig .tc := ⟨.hbm, 101, rfl⟩
abbrev main_v46 : Ref sig .tc := ⟨.hbm, 102, rfl⟩
abbrev main_cst_17 : Ref sig .tc := ⟨.hbm, 103, rfl⟩
abbrev main_v47 : Ref sig .tc := ⟨.hbm, 104, rfl⟩
abbrev main_v48 : Ref sig .tc := ⟨.hbm, 105, rfl⟩
abbrev main_cst_18 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_cst_19 : Ref sig .tc := ⟨.hbm, 110, rfl⟩
abbrev main_v52 : Ref sig .tc := ⟨.hbm, 111, rfl⟩
abbrev main_cst_20 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_cst_21 : Ref sig .tc := ⟨.hbm, 116, rfl⟩
abbrev main_v56 : Ref sig .tc := ⟨.hbm, 117, rfl⟩
abbrev main_v57 : Ref sig .tc := ⟨.hbm, 118, rfl⟩

abbrev nD : Nat := 1
abbrev τ : Topo := Topo.v7x

variable {F : FTy → Type} [FloatOps F]
-- ==== Proof.Blocks.lean ====
/-
  The kernel's body, written once as a short program over ten named buffers.

  `Cmd` is the language of that program: loads and stores of the VMEM and SMEM buffers the body
  is called with, each continued by what follows. `Cmd.toProg` turns a command into the program the
  machine runs, given the ten memrefs; `Cmd.run` says what it does to the contents of the ten buffers.
-/
module

public import Idealize.ShloMosaic.Lib.Pipeline
public import Idealize.ShloMosaic.Lib.VecWindow
public import Idealize.ShloMosaic.PureOps

@[expose] public section

noncomputable section

namespace Cert.Bce

open Idealize.ShloMosaic Idealize.SL.Sem

abbrev S10 : Shape := ⟨1, ![10]⟩
abbrev S1 : Shape := ⟨1, ![1]⟩
abbrev S256x4096 : Shape := ⟨2, ![256, 4096]⟩
abbrev S2x10 : Shape := ⟨2, ![2, 10]⟩
abbrev S8x4096 : Shape := ⟨2, ![8, 4096]⟩
abbrev S10x8x128 : Shape := ⟨3, ![10, 8, 128]⟩
abbrev S1x1 : Shape := ⟨2, ![1, 1]⟩
abbrev S8x128 : Shape := ⟨2, ![8, 128]⟩
abbrev S1x8x128 : Shape := ⟨3, ![1, 8, 128]⟩
abbrev S1x256x4096 : Shape := ⟨3, ![1, 256, 4096]⟩
abbrev S1x1x1 : Shape := ⟨3, ![1, 1, 1]⟩
abbrev S1x8x4096 : Shape := ⟨3, ![1, 8, 4096]⟩

/-- The VMEM buffers: the two input blocks, the packed counters, the loss accumulator, the counts. -/
inductive VB | p | t | iacc | vacc | facc
  deriving DecidableEq

/-- The SMEM buffers: the table of bins, the two results, the two rows of sums, the flag. -/
inductive SB | ema | loss | emao | acc | flag
  deriving DecidableEq

instance : Fintype VB := ⟨{.p, .t, .iacc, .vacc, .facc}, fun b => by cases b <;> decide⟩
instance : Fintype SB := ⟨{.ema, .loss, .emao, .acc, .flag}, fun b => by cases b <;> decide⟩

def VB.shape : VB → Shape
  | .p => S256x4096 | .t => S256x4096 | .iacc => S8x4096 | .vacc => S8x4096 | .facc => S10x8x128

def VB.ety : VB → EltTy
  | .p => .f32 | .t => .f32 | .iacc => .i32 | .vacc => .f32 | .facc => .f32

def SB.shape : SB → Shape
  | .ema => S10 | .loss => S1 | .emao => S10 | .acc => S2x10 | .flag => S1

def SB.ety : SB → EltTy
  | .ema => .f32 | .loss => .f32 | .emao => .f32 | .acc => .f32 | .flag => .i32

theorem VB.bits (b : VB) : b.ety.bits = 32 := by cases b <;> rfl
theorem SB.packing (b : SB) : b.ety.packing = 1 := by cases b <;> rfl

/-- The part of a shape's axes at offsets `off` and sizes `size` is inside it. -/
abbrev Inb (s : Shape) (off size : Fin s.rank → Nat) : Prop := ∀ a, off a + size a ≤ s.size a

/-- A program over the ten buffers: loads, stores and branches on computed conditions. It ends in `done`, or in
    `exit f`, which goes on with a program given outside at the value `f`. -/
inductive Cmd (F : FTy → Type) : Type
  | done : Cmd F
  | ldV (b : VB) (off size : Fin b.shape.rank → Nat) (inb : Inb b.shape off size) (h : 0 < (⟨b.shape.rank, size⟩ : Shape).numel)
      (k : ((⟨b.shape.rank, size⟩ : Shape).Idx → Elt F b.ety) → Cmd F) : Cmd F
  | stV (b : VB) (off size : Fin b.shape.rank → Nat) (inb : Inb b.shape off size) (h : 0 < (⟨b.shape.rank, size⟩ : Shape).numel)
      (w : (⟨b.shape.rank, size⟩ : Shape).Idx → Elt F b.ety) (k : Cmd F) : Cmd F
  | ldS (b : SB) (off size : Fin b.shape.rank → Nat) (inb : Inb b.shape off size) (h : (⟨b.shape.rank, size⟩ : Shape).numel = 1)
      (k : Elt F b.ety → Cmd F) : Cmd F
  | stS (b : SB) (off size : Fin b.shape.rank → Nat) (inb : Inb b.shape off size) (h : (⟨b.shape.rank, size⟩ : Shape).numel = 1)
      (w : Elt F b.ety) (k : Cmd F) : Cmd F
  | cond (c : BitVec 1) (a b : Cmd F) : Cmd F
  | exit (f : BitVec 32) : Cmd F

/-- The contents of the ten buffers. -/
structure St (F : FTy → Type) where
  v : (b : VB) → b.shape.Idx → Elt F b.ety
  s : (b : SB) → b.shape.Idx → Elt F b.ety

/-- The ten memrefs the body is called with. -/
structure Mems (sig : RefSig) where
  v : (b : VB) → Memref sig .tc .vmem b.shape b.ety
  s : (b : SB) → Memref sig .tc .smem b.shape b.ety

section Prog
variable {F : FTy → Type} {nD : Nat} {τ : Topo} {sig : RefSig} {Λ : Labels}

/-- The program the machine runs for a command, going on with `T` at its exits. -/
def Cmd.toProg (M : Mems sig) (T : BitVec 32 → Prog (TpuEff nD τ sig (Elt F) Λ .tc) PUnit) : Cmd F → Prog (TpuEff nD τ sig (Elt F) Λ .tc) PUnit
  | .done => .ret ⟨⟩
  | .ldV b off size inb h k => .op (.load (M.v b) (Rect.unit off size inb).toLoadRect (View.loadsAt_vmem h)) fun x => (k x).toProg M T
  | .stV b off size inb h w k =>
      .op (.store (M.v b) (Rect.unit off size inb) w Finset.univ (View.stores_vmem_bits_univ h b.bits) (.inl rfl)) fun _ => k.toProg M T
  | .ldS b off size inb h k =>
      .op (.load (M.s b) (Rect.unit off size inb).toLoadRect (View.loadsAt_rect (View.loads_smem_one b.packing h))) fun x =>
        (k (x (Shape.Idx.first (h.symm ▸ Nat.one_pos)))).toProg M T
  | .stS b off size inb h w k =>
      .op (.store (M.s b) (Rect.unit off size inb) (fun _ => w) Finset.univ (View.stores_smem_one b.packing h) (.inl rfl)) fun _ => k.toProg M T
  | .cond c a b => if c = 1#1 then a.toProg M T else b.toProg M T
  | .exit f => T f

/-- What a command does to the contents of the buffers, its exits going on with `R`. -/
def Cmd.run (R : BitVec 32 → St F → St F) : Cmd F → St F → St F
  | .done, st => st
  | .ldV b off size inb _ k, st => (k (VecWindow.window (st.v b) off size inb)).run R st
  | .stV b off size _ _ w k, st => k.run R { st with v := Function.update st.v b (VecWindow.put (st.v b) off size w) }
  | .ldS b off size inb h k, st =>
      (k (VecWindow.window (st.s b) off size inb (Shape.Idx.first (h.symm ▸ Nat.one_pos)))).run R st
  | .stS b off size _ _ w k, st => k.run R { st with s := Function.update st.s b (VecWindow.put (st.s b) off size (fun _ => w)) }
  | .cond c a b, st => if c = 1#1 then a.run R st else b.run R st
  | .exit f, st => R f st

end Prog

end Cert.Bce
-- ==== Proof.Body.lean ====
/-
  The kernel's body as commands: the prologue of the first step, the fast path over 32 groups of
  eight rows with its packed counters, the general path over ten bins, and the final step.
-/
module

public import proofs.«01_k».proof.Proof.Blocks

@[expose] public section

noncomputable section

namespace Cert.Bce

open Idealize.ShloMosaic Idealize.SL.Sem

variable {F : FTy → Type} [FloatOps F]

/-- The three named constants: `1 / log 2`, `-100 / log 2`, `log 2`. -/
structure Consts (F : FTy → Type) where
  invLn2 : F .f32
  clamp2 : F .f32
  ln2 : F .f32

/-- An f32 literal by its bits. -/
abbrev lit (x : BitVec 32) : F .f32 := Scalar.ofBits .f32 x

/-! ## Where the body reads and writes -/

theorem inb_rows : ∀ g : Fin 32, Inb S256x4096 ![8 * g.val, 0] S8x4096.size := by decide
theorem inb_bin1 : ∀ b : Fin 10, Inb S10 ![b.val] S1.size := by decide
theorem inb_bin2 : ∀ (r : Fin 2) (b : Fin 10), Inb S2x10 ![r.val, b.val] S1x1.size := by decide
theorem inb_bin3 : ∀ b : Fin 10, Inb S10x8x128 ![b.val, 0, 0] S1x8x128.size := by decide
theorem slices_lanes : ∀ j : Fin 32, S8x4096.Slices ![0, 128 * j.val] S8x128 := by decide
theorem inb_one : Inb S1 ![0] S1.size := by decide
theorem inb_wide : Inb S8x4096 ![0, 0] S8x4096.size := by decide
theorem inb_block : Inb S256x4096 ![0, 0] S256x4096.size := by decide
theorem inb_facc : Inb S10x8x128 ![0, 0, 0] S10x8x128.size := by decide
theorem pos_wide : 0 < S8x4096.numel := by decide
theorem pos_block : 0 < S256x4096.numel := by decide
theorem pos_facc : 0 < S10x8x128.numel := by decide
theorem pos_lane : 0 < S1x8x128.numel := by decide
theorem one_S1 : S1.numel = 1 := by decide
theorem one_S1x1 : S1x1.numel = 1 := by decide
theorem cast_wide : S8x4096.ShapeCasts S8x4096 := by decide
theorem cast_facc : S10x8x128.ShapeCasts S10x8x128 := by decide
theorem cast_lane : S1x8x128.ShapeCasts S8x128 := by decide
theorem cast_lane' : S8x128.ShapeCasts S1x8x128 := by decide
theorem cast_block : S256x4096.ShapeCasts S1x256x4096 := by decide
theorem cast_wide' : S8x4096.ShapeCasts S1x8x4096 := by decide
theorem cast_one : S1.ShapeCasts S1x1x1 := by decide
theorem red_block : S1x256x4096.Reduces [1, 2] S1 := by decide
theorem red_wide : S1x8x4096.Reduces [1, 2] S1 := by decide
theorem red_lane : S1x8x128.Reduces [1, 2] S1 := by decide
theorem inpos_one : ∀ a, (![0, 0, 0] : Fin 3 → Nat) a < S1x1x1.size a := by decide

/-! ## The loads and stores it uses -/

abbrev ldP (g : Nat) (hg : g < 32) (k : FVec F S8x4096 .f32 → Cmd F) : Cmd F :=
  .ldV .p ![8 * g, 0] S8x4096.size (inb_rows ⟨g, hg⟩) pos_wide k
abbrev ldT (g : Nat) (hg : g < 32) (k : FVec F S8x4096 .f32 → Cmd F) : Cmd F :=
  .ldV .t ![8 * g, 0] S8x4096.size (inb_rows ⟨g, hg⟩) pos_wide k
abbrev ldVacc (k : FVec F S8x4096 .f32 → Cmd F) : Cmd F := .ldV .vacc ![0, 0] S8x4096.size inb_wide pos_wide k
abbrev stVacc (w : FVec F S8x4096 .f32) (k : Cmd F) : Cmd F := .stV .vacc ![0, 0] S8x4096.size inb_wide pos_wide w k
abbrev ldIacc (k : IVec S8x4096 32 → Cmd F) : Cmd F := .ldV .iacc ![0, 0] S8x4096.size inb_wide pos_wide k
abbrev stIacc (w : IVec S8x4096 32) (k : Cmd F) : Cmd F := .stV .iacc ![0, 0] S8x4096.size inb_wide pos_wide w k
abbrev ldFacc (b : Fin 10) (k : FVec F S1x8x128 .f32 → Cmd F) : Cmd F :=
  .ldV .facc ![b.val, 0, 0] S1x8x128.size (inb_bin3 b) pos_lane k
abbrev stFacc (b : Fin 10) (w : FVec F S1x8x128 .f32) (k : Cmd F) : Cmd F :=
  .stV .facc ![b.val, 0, 0] S1x8x128.size (inb_bin3 b) pos_lane w k
abbrev ldEma (b : Fin 10) (k : F .f32 → Cmd F) : Cmd F := .ldS .ema ![b.val] S1.size (inb_bin1 b) one_S1 k
abbrev ldOut (b : Fin 10) (k : F .f32 → Cmd F) : Cmd F := .ldS .emao ![b.val] S1.size (inb_bin1 b) one_S1 k
abbrev stOut (b : Fin 10) (w : F .f32) (k : Cmd F) : Cmd F := .stS .emao ![b.val] S1.size (inb_bin1 b) one_S1 w k
abbrev ldAcc (r : Fin 2) (b : Fin 10) (k : F .f32 → Cmd F) : Cmd F := .ldS .acc ![r.val, b.val] S1x1.size (inb_bin2 r b) one_S1x1 k
abbrev stAcc (r : Fin 2) (b : Fin 10) (w : F .f32) (k : Cmd F) : Cmd F :=
  .stS .acc ![r.val, b.val] S1x1.size (inb_bin2 r b) one_S1x1 w k
abbrev ldFlag (k : BitVec 32 → Cmd F) : Cmd F := .ldS .flag ![0] S1.size inb_one one_S1 k
abbrev stFlag (w : BitVec 32) (k : Cmd F) : Cmd F := .stS .flag ![0] S1.size inb_one one_S1 w k
abbrev ldLoss (k : F .f32 → Cmd F) : Cmd F := .ldS .loss ![0] S1.size inb_one one_S1 k
abbrev stLoss (w : F .f32) (k : Cmd F) : Cmd F := .stS .loss ![0] S1.size inb_one one_S1 w k

/-- `k` after the commands `f 0, …, f (n - 1)`, each given what follows it: bins in their order. -/
def each (f : Fin 10 → Cmd F → Cmd F) : (n : Nat) → (b : Nat) → b + n = 10 → Cmd F → Cmd F
  | 0, _, _, k => k
  | n + 1, b, h, k => f ⟨b, by omega⟩ (each f n (b + 1) (by omega) k)

/-- The ten bins in order. -/
def bins (f : Fin 10 → Cmd F → Cmd F) (k : Cmd F) : Cmd F := each f 10 0 rfl k

/-- The ten bins in order, carrying a value from each to the next. -/
def fold {α : Type} (f : Fin 10 → α → (α → Cmd F) → Cmd F) : (n : Nat) → (b : Nat) → b + n = 10 → α → (α → Cmd F) → Cmd F
  | 0, _, _, a, k => k a
  | n + 1, b, h, a, k => f ⟨b, by omega⟩ a fun a' => fold f n (b + 1) (by omega) a' k

/-! ## The prologue -/

/-- The first step: the flag says whether every entry of the table is one; the accumulators are cleared. -/
def prologue (k : Cmd F) : Cmd F :=
  fold (fun b ones k => ldEma b fun x => k (Scalar.select (Scalar.cmpf .oeq x (lit 0x3F800000#32)) ones 0#32)) 10 0 rfl 1#32 fun ones =>
  ldFlag fun _ => stFlag ones <|
  bins (fun b k => ldAcc 0 b fun _ => stAcc 0 b (lit 0x00000000#32) <| ldAcc 1 b fun _ => stAcc 1 b (lit 0x00000000#32) k) <|
  ldVacc fun _ => stVacc (shapeCast S8x4096 (broadcast S8x4096 (lit 0x00000000#32)) cast_wide) <|
  .ldV .facc ![0, 0, 0] S10x8x128.size inb_facc pos_facc fun _ =>
  .stV .facc ![0, 0, 0] S10x8x128.size inb_facc pos_facc (shapeCast S10x8x128 (broadcast S10x8x128 (lit 0x00000000#32)) cast_facc) k

/-! ## The fast path -/

/-- The cross-entropy of eight rows in binary logarithms, with its sign left out. -/
def bce2 (c : Consts F) (p t : FVec F S8x4096 .f32) : FVec F S8x4096 .f32 :=
  let lp := maximumf (mulf (log p) (broadcast S8x4096 c.invLn2)) (broadcast S8x4096 c.clamp2)
  let l1 := maximumf (mulf (log (subf (broadcast S8x4096 (lit 0x3F800000#32)) p)) (broadcast S8x4096 c.invLn2)) (broadcast S8x4096 c.clamp2)
  addf (mulf t (subf lp l1)) l1

/-- One in the 3-bit digit of the element's bin. -/
def digit (p t : FVec F S8x4096 .f32) : IVec S8x4096 32 :=
  shli (broadcast S8x4096 1#32)
    (muli (fptosi 32 (mulf (absf (subf p t)) (broadcast S8x4096 (lit 0x41200000#32)))) (broadcast S8x4096 3#32))

/-- One group of eight rows: its losses are added up, its digits start a word (`first`) or are added to it. -/
def group (c : Consts F) (first : Bool) (g : Nat) (hg : g < 32) (k : Cmd F) : Cmd F :=
  ldP g hg fun p => ldT g hg fun t =>
  ldVacc fun a => ldVacc fun _ => stVacc (shapeCast S8x4096 (addf a (bce2 c p t)) cast_wide) <|
  match first with
  | true => ldIacc fun _ => stIacc (shapeCast S8x4096 (digit p t) cast_wide) k
  | false => ldIacc fun i => ldIacc fun _ => stIacc (shapeCast S8x4096 (addi i (digit p t)) cast_wide) k

/-- The digits of bin `b` in lane chunk `j`. -/
def chunk (v : IVec S8x4096 32) (b j : Nat) (hj : j < 32) : IVec S8x128 32 :=
  andi (shrsi (extractStridedSlice S8x128 ![0, 128 * j] v (slices_lanes ⟨j, hj⟩)) (broadcast S8x128 (BitVec.ofNat 32 (3 * b)))) (broadcast S8x128 7#32)

/-- The digits of bin `b`, added up over the lane chunks `0, …, j`. -/
def chunks (v : IVec S8x4096 32) (b : Nat) : (j : Nat) → j < 32 → IVec S8x128 32
  | 0, h => chunk v b 0 h
  | j + 1, h => addi (chunks v b j (by omega)) (chunk v b (j + 1) h)

/-- The packed words are unpacked: each bin's digits are added to its counts. -/
def flush (k : Cmd F) : Cmd F :=
  ldIacc fun v => bins (fun b k => ldFacc b fun a => ldFacc b fun _ =>
    stFacc b (shapeCast S1x8x128 (addf (shapeCast S8x128 a cast_lane) (sitofp .f32 (chunks v b.val 31 (by decide)))) cast_lane') k) k

/-- `n` groups from group `g`. -/
def groups (c : Consts F) : (n : Nat) → (g : Nat) → g + n ≤ 32 → Cmd F → Cmd F
  | 0, _, _, k => k
  | n + 1, g, h, k => group c false g (by omega) (groups c n (g + 1) (by omega) k)

/-- A run of `n + 1` groups from group `g`, its digits packed into one word per lane and then unpacked. -/
def packed (c : Consts F) (g n : Nat) (h : g + (n + 1) ≤ 32) (k : Cmd F) : Cmd F :=
  group c true g (by omega) (groups c n (g + 1) (by omega) (flush k))

def fast (c : Consts F) (k : Cmd F) : Cmd F :=
  packed c 0 6 (by decide) <| packed c 7 6 (by decide) <| packed c 14 6 (by decide) <| packed c 21 6 (by decide) <|
  packed c 28 3 (by decide) k

/-! ## The general path -/

/-- The cross-entropy of a block. -/
def bceBlock (p t : FVec F S256x4096 .f32) : FVec F S256x4096 .f32 :=
  let lp := maximumf (log p) (broadcast S256x4096 (lit 0xC2C80000#32))
  let l1 := maximumf (log1p (subf (broadcast S256x4096 (lit 0x00000000#32)) p)) (broadcast S256x4096 (lit 0xC2C80000#32))
  subf (broadcast S256x4096 (lit 0x00000000#32)) (addf (mulf t (subf lp l1)) l1)

/-- The bin of each element of a block, as a number. -/
def binBlock (p t : FVec F S256x4096 .f32) : FVec F S256x4096 .f32 :=
  minimumf (floor (mulf (absf (subf p t)) (broadcast S256x4096 (lit 0x41200000#32)))) (broadcast S256x4096 (lit 0x41100000#32))

/-- The sum of a block. -/
def sumBlock (v : FVec F S256x4096 .f32) : F .f32 :=
  extractAt ![0, 0, 0] (shapeCast S1x1x1
    (multiReduction .add [1, 2] S1 (shapeCast S1x256x4096 v cast_block) 0x00000000#32 red_block (.inl rfl) rfl) cast_one) inpos_one

/-- The numbers of the bins as f32 literals. -/
def binLit : Fin 10 → BitVec 32 :=
  ![0x00000000#32, 0x3F800000#32, 0x40000000#32, 0x40400000#32, 0x40800000#32, 0x40A00000#32, 0x40C00000#32, 0x40E00000#32,
    0x41000000#32, 0x41100000#32]

def general (k : Cmd F) : Cmd F :=
  .ldV .p ![0, 0] S256x4096.size inb_block pos_block fun p => .ldV .t ![0, 0] S256x4096.size inb_block pos_block fun t =>
  bins (fun b k =>
    ldAcc 0 b fun a => ldAcc 0 b fun _ => stAcc 0 b (Scalar.addf a (sumBlock (select (cmpf .oeq (binBlock p t) (broadcast S256x4096 (lit (binLit b))))
      (broadcast S256x4096 (lit 0x3F800000#32)) (broadcast S256x4096 (lit 0x00000000#32))))) <|
    ldAcc 1 b fun a => ldAcc 1 b fun _ => stAcc 1 b (Scalar.addf a (sumBlock (select (cmpf .oeq (binBlock p t) (broadcast S256x4096 (lit (binLit b))))
      (bceBlock p t) (broadcast S256x4096 (lit 0x00000000#32))))) k) k

/-! ## The final step -/

def sumWide (v : FVec F S8x4096 .f32) : F .f32 :=
  extractAt ![0, 0, 0] (shapeCast S1x1x1
    (multiReduction .add [1, 2] S1 (shapeCast S1x8x4096 v cast_wide') 0x00000000#32 red_wide (.inl rfl) rfl) cast_one) inpos_one

def sumLane (v : FVec F S8x128 .f32) : F .f32 :=
  extractAt ![0, 0, 0] (shapeCast S1x1x1
    (multiReduction .add [1, 2] S1 (shapeCast S1x8x128 v cast_lane') 0x00000000#32 red_lane (.inl rfl) rfl) cast_one) inpos_one

/-- On the fast path the accumulated losses and counts go to the rows of sums. -/
def drain (k : Cmd F) : Cmd F :=
  ldAcc 1 0 fun a => ldVacc fun v => ldAcc 1 0 fun _ => stAcc 1 0 (Scalar.subf a (sumWide v)) <|
  bins (fun b k => ldFacc b fun f => ldAcc 0 b fun _ => stAcc 0 b (sumLane (shapeCast S8x128 f cast_lane)) k) k

/-- The loss and the new table from the rows of sums. -/
def results (c : Consts F) (k : Cmd F) : Cmd F :=
  ldFlag fun fl =>
  fold (fun b s k => ldAcc 1 b fun l => ldEma b fun e => k (Scalar.addf s (Scalar.divf l e))) 10 0 rfl (lit 0x00000000#32) fun lsum =>
  ldLoss fun _ => stLoss (Scalar.divf (Scalar.mulf lsum (Scalar.select (Scalar.cmpi .eq fl 1#32) c.ln2 (lit 0x3F800000#32))) (lit 0x4B800000#32)) <|
  fold (fun b s k => ldEma b fun e => ldAcc 0 b fun n => ldOut b fun _ =>
    stOut b (Scalar.addf (Scalar.mulf e (lit 0x3F7FBE77#32)) (Scalar.mulf (lit 0x3A83126F#32) (Scalar.mulf (Scalar.divf n (lit 0x4B800000#32)) (lit 0x41200000#32)))) <|
    k (Scalar.addf s (Scalar.addf (Scalar.mulf e (lit 0x3F7FBE77#32))
      (Scalar.mulf (lit 0x3A83126F#32) (Scalar.mulf (Scalar.divf n (lit 0x4B800000#32)) (lit 0x41200000#32))))))
    10 0 rfl (lit 0x00000000#32) fun esum =>
  bins (fun b k => ldOut b fun x => ldOut b fun _ =>
    stOut b (Scalar.mulf (Scalar.divf x (Scalar.maximumf esum (lit 0x2EDBE6FF#32))) (lit 0x41200000#32)) k) k

/-! ## The whole body -/

/-- A condition as the body branches on it: the bit, extended, is not zero. -/
abbrev nz (x : BitVec 1) : BitVec 1 := Scalar.cmpi .ne (Scalar.extui x : BitVec 32) 0#32

/-- The body at grid step `i` up to the final step: it exits with the flag. -/
def body (c : Consts F) (i : BitVec 32) : Cmd F :=
  let rest (f : BitVec 32) : Cmd F := .cond (nz (Scalar.xori (Scalar.cmpi .eq f 1#32) 1#1)) (general (.exit f)) (.exit f)
  let main : Cmd F := ldFlag fun f => .cond (nz (Scalar.cmpi .eq f 1#32)) (fast c (rest f)) (rest f)
  .cond (nz (Scalar.cmpi .eq i 0#32)) (prologue main) main

/-- What follows at grid step `i` with the flag `f`: on the last step, the results. -/
def final (c : Consts F) (i f : BitVec 32) : Cmd F :=
  .cond (nz (Scalar.cmpi .eq i 15#32)) (.cond (nz (Scalar.cmpi .eq f 1#32)) (drain (results c .done)) (results c .done)) .done

end Cert.Bce
-- ==== Proof.Sem.lean ====
/-
  A command's program does to the ten buffers what `Cmd.run` says: one induction over commands.
-/
module

public import proofs.«01_k».proof.Proof.Body
public import Idealize.ShloMosaic.Lib.Tactic
public import Idealize.ShloMosaic.Lib.Pipeline.FrameBody

@[expose] public section

noncomputable section

namespace Cert.Bce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} {nD : Nat} {τ : Topo} {sig : RefSig} {Ix : Type} [DecidableEq Ix]
variable {Name : Type} [DecidableEq Name] {U : Type} [URA U] {Lvl : Type} {Λ : Labels}

local notation "𝕄" => MT nD τ sig Ix (Elt F) Name U Lvl

/-- The ten buffers of core `c` held whole at the contents `st`. -/
def Own (M : Mems sig) (c : Dev nD) (st : St F) : sProp 𝕄 :=
  iprop(bigSep Finset.univ (fun b : VB => owns (c : Thread nD τ) (M.v b) fullShare (st.v b))
    ∗ bigSep Finset.univ (fun b : SB => owns (c : Thread nD τ) (M.s b) fullShare (st.s b)))

/-- Buffers held at contents, one of them taken out: it may come back at other contents. -/
theorem bigSep_update {I : Type} [Fintype I] [DecidableEq I] {α : I → Type} (P : (i : I) → α i → sProp 𝕄) (x : (i : I) → α i) (i : I) :
    bigSep Finset.univ (fun j => P j (x j)) ⊢ iprop(P i (x i) ∗ ∀ y, P i y -∗ bigSep Finset.univ fun j => P j (Function.update x i y j)) := by
  have e (z : (j : I) → α j) : (bigSep Finset.univ (fun j => P j (z j)) : sProp 𝕄)
      = iprop(P i (z i) ∗ bigSep (Finset.univ.erase i) fun j => P j (z j)) := BI.bigSep_univ_split i
  rw [e x]
  iintro ⟨H, Hr⟩
  isplitl [H]; · iexact H
  iintro %y Hy
  rw [e (Function.update x i y), Function.update_self,
    BI.bigSep_congr (Φ := fun j => P j (Function.update x i y j)) (Ψ := fun j => P j (x j))
      fun j hj => by rw [Function.update_of_ne (Finset.ne_of_mem_erase hj)]]
  isplitl [Hy]; · iexact Hy
  iexact Hr

variable [Preorder Lvl] {defs : Defs nD τ sig (Elt F) Λ} (𝒱 : Variants) (c : Dev nD) (bd : Option 𝒱.V) (E : Set Name)

/-- A load of a window of a memref held whole: what is read is the window of its contents. -/
theorem wp_ld {sp : CoreSpace} {s : Shape} {e : EltTy} (m : Memref sig .tc sp s e) (off size : Fin s.rank → Nat) (inb : Inb s off size)
    {hl : m.view.LoadsAt (Rect.unit off size inb).toLoadRect} (x : s.Idx → Elt F e)
    (k : ((⟨s.rank, size⟩ : Shape).Idx → Elt F e) → Prog (TpuEff nD τ sig (Elt F) Λ .tc) PUnit) (Q : PUnit → sProp 𝕄) :
    (owns (c : Thread nD τ) m fullShare x : sProp 𝕄)
      ⊢ iprop((owns (c : Thread nD τ) m fullShare x -∗ wp frame (wpE defs 𝒱 (c : Thread nD τ) bd) E (k (VecWindow.window x off size inb)) Q)
        -∗ wp frame (wpE defs 𝒱 (c : Thread nD τ) bd) E (.op (.load m (Rect.unit off size inb).toLoadRect hl) k) Q) := by
  unfold owns
  iintro ⟨%f, %hf, H⟩ Hk
  subst hf
  iapply (wp_load 𝒱 (c : Thread nD τ) bd E (m := m) (r := (Rect.unit off size inb).toLoadRect) (hl := hl) (k := k) (f := f) (Q := Q)
    (m.view.setOn_subset_set _)) $$ H
  iintro H
  rw [View.readAt_unit m.view f inb rfl inb]
  iapply Hk
  iexists f
  isplitr; · ipureintro; rfl
  iexact H

/-- A store of a window of a memref held whole: its contents afterwards. -/
theorem wp_st {sp : CoreSpace} {s : Shape} {e : EltTy} (m : Memref sig .tc sp s e) (off size : Fin s.rank → Nat) (inb : Inb s off size)
    (w : (⟨s.rank, size⟩ : Shape).Idx → Elt F e) {hx : (m.access (Rect.unit off size inb)).Stores Finset.univ}
    {hm : (Finset.univ : Finset (Rect.unit off size inb).shape.Idx) = Finset.univ ∨ ∀ a, (Rect.unit off size inb).stride a = 1} (x : s.Idx → Elt F e)
    (k : PUnit → Prog (TpuEff nD τ sig (Elt F) Λ .tc) PUnit) (Q : PUnit → sProp 𝕄) :
    (owns (c : Thread nD τ) m fullShare x : sProp 𝕄)
      ⊢ iprop((owns (c : Thread nD τ) m fullShare (VecWindow.put x off size w) -∗ wp frame (wpE defs 𝒱 (c : Thread nD τ) bd) E (k ⟨⟩) Q)
        -∗ wp frame (wpE defs 𝒱 (c : Thread nD τ) bd) E (.op (.store m (Rect.unit off size inb) w Finset.univ hx hm) k) Q) := by
  unfold owns
  iintro ⟨%f, %hf, H⟩ Hk
  subst hf
  iapply (wp_store_writes₀ 𝒱 (c : Thread nD τ) bd E (m := m) (r := Rect.unit off size inb) (w := w) (hx := hx) (hm := hm) (k := k) (f := f) (Q := Q)
    (m.view.set_slice_subset _)) $$ H
  iintro H
  iapply Hk
  iexists _
  isplitr
  swap; · iexact H
  ipureintro
  rw [View.read_writes_cons_put m.view f inb w [] rfl, View.writes_nil]

/-- THE MEANING OF A COMMAND: from the ten buffers held at `st`, its program ends with them at `Cmd.run` of `st`,
    given that this is so of the program it exits to. -/
theorem wp_cmd (M : Mems sig) (T : BitVec 32 → Prog (TpuEff nD τ sig (Elt F) Λ .tc) PUnit) (R : BitVec 32 → St F → St F)
    (hT : ∀ f st, (Own M c st : sProp 𝕄) ⊢ wp frame (wpE defs 𝒱 (c : Thread nD τ) bd) E (T f) fun _ => Own M c (R f st)) (p : Cmd F) :
    ∀ st, (Own M c st : sProp 𝕄) ⊢ wp frame (wpE defs 𝒱 (c : Thread nD τ) bd) E (p.toProg M T) fun _ => Own M c (p.run R st) := by
  induction p with
  | done => intro st; exact le_wp_ret _ _ _ (⟨⟩ : PUnit) (fun _ => Own M c st)
  | exit f => intro st; exact hT f st
  | cond x a b iha ihb =>
    intro st
    simp only [Cmd.toProg, Cmd.run]
    split
    · exact iha st
    · exact ihb st
  | ldV b off size inb h k ih =>
    intro st
    unfold Own
    iintro ⟨HV, HS⟩
    ihave H := (bigSep_update (fun b : VB => owns (c : Thread nD τ) (M.v b) fullShare) st.v b) $$ HV
    icases H with ⟨Hb, Hr⟩
    iapply (wp_ld 𝒱 c bd E (M.v b) off size inb (st.v b) (fun x => (k x).toProg M T) _) $$ Hb
    iintro Hb
    ispecialize Hr $$ %(st.v b)
    ihave HV := Hr $$ Hb
    rw [Function.update_eq_self]
    ihave H := (ih (VecWindow.window (st.v b) off size inb) st) $$ [HV HS]
    · unfold Own; isplitl [HV] <;> iassumption
    iexact H
  | stV b off size inb h w k ih =>
    intro st
    unfold Own
    iintro ⟨HV, HS⟩
    ihave H := (bigSep_update (fun b : VB => owns (c : Thread nD τ) (M.v b) fullShare) st.v b) $$ HV
    icases H with ⟨Hb, Hr⟩
    iapply (wp_st 𝒱 c bd E (M.v b) off size inb w (st.v b) (fun _ => k.toProg M T) _) $$ Hb
    iintro Hb
    ispecialize Hr $$ %(VecWindow.put (st.v b) off size w)
    ihave HV := Hr $$ Hb
    ihave H := (ih { st with v := Function.update st.v b (VecWindow.put (st.v b) off size w) }) $$ [HV HS]
    · unfold Own; isplitl [HV] <;> iassumption
    iexact H
  | ldS b off size inb h k ih =>
    intro st
    unfold Own
    iintro ⟨HV, HS⟩
    ihave H := (bigSep_update (fun b : SB => owns (c : Thread nD τ) (M.s b) fullShare) st.s b) $$ HS
    icases H with ⟨Hb, Hr⟩
    iapply (wp_ld 𝒱 c bd E (M.s b) off size inb (st.s b)
      (fun x => (k (x (Shape.Idx.first (h.symm ▸ Nat.one_pos)))).toProg M T) _) $$ Hb
    iintro Hb
    ispecialize Hr $$ %(st.s b)
    ihave HS := Hr $$ Hb
    rw [Function.update_eq_self]
    ihave H := (ih (VecWindow.window (st.s b) off size inb (Shape.Idx.first (h.symm ▸ Nat.one_pos))) st) $$ [HV HS]
    · unfold Own; isplitl [HV] <;> iassumption
    iexact H
  | stS b off size inb h w k ih =>
    intro st
    unfold Own
    iintro ⟨HV, HS⟩
    ihave H := (bigSep_update (fun b : SB => owns (c : Thread nD τ) (M.s b) fullShare) st.s b) $$ HS
    icases H with ⟨Hb, Hr⟩
    iapply (wp_st 𝒱 c bd E (M.s b) off size inb (fun _ => w) (st.s b) (fun _ => k.toProg M T) _) $$ Hb
    iintro Hb
    ispecialize Hr $$ %(VecWindow.put (st.s b) off size (fun _ => w))
    ihave HS := Hr $$ Hb
    ihave H := (ih { st with s := Function.update st.s b (VecWindow.put (st.s b) off size (fun _ => w)) }) $$ [HV HS]
    · unfold Own; isplitl [HV] <;> iassumption
    iexact H

/-! ## Which buffers a command may write -/

/-- Every store of the command is to a buffer that `v` and `s` allow. -/
def Cmd.Only (v : VB → Bool) (s : SB → Bool) : Cmd F → Prop
  | .done => True
  | .ldV _ _ _ _ _ k => ∀ x, (k x).Only v s
  | .stV b _ _ _ _ _ k => v b = true ∧ k.Only v s
  | .ldS _ _ _ _ _ k => ∀ x, (k x).Only v s
  | .stS b _ _ _ _ _ k => s b = true ∧ k.Only v s
  | .cond _ a b => a.Only v s ∧ b.Only v s
  | .exit _ => True

/-- A buffer it may not write it leaves, if so does what it exits to. -/
theorem Cmd.run_s_of_only {v : VB → Bool} {s : SB → Bool} {R : BitVec 32 → St F → St F} (b : SB) (hb : s b = false)
    (hR : ∀ f st, (R f st).s b = st.s b) (p : Cmd F) : p.Only v s → ∀ st, (p.run R st).s b = st.s b := by
  induction p with
  | done => exact fun _ _ => rfl
  | ldV b' off size inb h k ih => exact fun hp st => ih _ (hp _) st
  | ldS b' off size inb h k ih => exact fun hp st => ih _ (hp _) st
  | stV b' off size inb h w k ih => exact fun hp st => ih hp.2 _
  | stS b' off size inb h w k ih =>
    intro hp st
    refine (ih hp.2 _).trans ?_
    exact Function.update_of_ne (fun e => by subst e; exact absurd (hb.symm.trans hp.1) (by decide)) _ _
  | cond x a b iha ihb => intro hp st; simp only [Cmd.run]; split; exacts [iha hp.1 st, ihb hp.2 st]
  | exit f => exact fun _ st => hR f st

theorem Cmd.run_v_of_only {v : VB → Bool} {s : SB → Bool} {R : BitVec 32 → St F → St F} (b : VB) (hb : v b = false)
    (hR : ∀ f st, (R f st).v b = st.v b) (p : Cmd F) : p.Only v s → ∀ st, (p.run R st).v b = st.v b := by
  induction p with
  | done => exact fun _ _ => rfl
  | ldV b' off size inb h k ih => exact fun hp st => ih _ (hp _) st
  | ldS b' off size inb h k ih => exact fun hp st => ih _ (hp _) st
  | stS b' off size inb h w k ih => exact fun hp st => ih hp.2 _
  | stV b' off size inb h w k ih =>
    intro hp st
    refine (ih hp.2 _).trans ?_
    exact Function.update_of_ne (fun e => by subst e; exact absurd (hb.symm.trans hp.1) (by decide)) _ _
  | cond x a b iha ihb => intro hp st; simp only [Cmd.run]; split; exacts [iha hp.1 st, ihb hp.2 st]
  | exit f => exact fun _ st => hR f st

section Only
variable {v : VB → Bool} {s : SB → Bool}

theorem only_each (f : Fin 10 → Cmd F → Cmd F) (hf : ∀ b k, k.Only v s → (f b k).Only v s) :
    ∀ n b h k, k.Only v s → (each f n b h k).Only v s
  | 0, _, _, _, hk => hk
  | n + 1, b, _, k, hk => hf _ _ (only_each f hf n (b + 1) _ k hk)

theorem only_bins {f : Fin 10 → Cmd F → Cmd F} (hf : ∀ b k, k.Only v s → (f b k).Only v s) {k : Cmd F} (hk : k.Only v s) :
    (bins f k).Only v s := only_each f hf 10 0 rfl k hk

theorem only_fold {α : Type} (f : Fin 10 → α → (α → Cmd F) → Cmd F) (hf : ∀ b a k, (∀ a, (k a).Only v s) → (f b a k).Only v s) :
    ∀ n b h a k, (∀ a, (k a).Only v s) → (fold f n b h a k).Only v s
  | 0, _, _, a, _, hk => hk a
  | n + 1, b, _, a, k, hk => hf _ _ _ fun a => only_fold f hf n (b + 1) _ a k hk

end Only

/-- What the body up to the final step writes. -/
def bodyV : VB → Bool | .iacc => true | .vacc => true | .facc => true | _ => false
def bodyS : SB → Bool | .acc => true | .flag => true | _ => false
/-- What the final step writes. -/
def finalS : SB → Bool | .acc => true | .loss => true | .emao => true | _ => false

section Body
variable [FloatOps F]

theorem only_prologue {k : Cmd F} (hk : k.Only bodyV bodyS) : (prologue k).Only bodyV bodyS := by
  unfold prologue
  refine only_fold _ (fun b a k hk => ?_) _ _ _ _ _ fun ones => ?_
  · exact fun x => hk _
  · refine fun _ => ⟨rfl, only_bins (fun b k hk => ?_) ?_⟩
    · exact fun _ => ⟨rfl, fun _ => ⟨rfl, hk⟩⟩
    · exact fun _ => ⟨rfl, fun _ => ⟨rfl, hk⟩⟩

theorem only_group (c : Consts F) (first : Bool) (g : Nat) (hg : g < 32) {k : Cmd F} (hk : k.Only bodyV bodyS) :
    (group c first g hg k).Only bodyV bodyS := by
  cases first
  · exact fun _ _ _ _ => ⟨rfl, fun _ _ => ⟨rfl, hk⟩⟩
  · exact fun _ _ _ _ => ⟨rfl, fun _ => ⟨rfl, hk⟩⟩

theorem only_groups (c : Consts F) : ∀ n g h (k : Cmd F), k.Only bodyV bodyS → (groups c n g h k).Only bodyV bodyS
  | 0, _, _, _, hk => hk
  | n + 1, g, _, k, hk => only_group c false g _ (only_groups c n (g + 1) _ k hk)

theorem only_flush {k : Cmd F} (hk : k.Only bodyV bodyS) : (flush k).Only bodyV bodyS := by
  refine fun v => only_bins (fun b k hk => ?_) hk
  exact fun _ _ => ⟨rfl, hk⟩

theorem only_packed (c : Consts F) (g n : Nat) (h : g + (n + 1) ≤ 32) {k : Cmd F} (hk : k.Only bodyV bodyS) : (packed c g n h k).Only bodyV bodyS :=
  only_group c true g _ (only_groups c n (g + 1) _ _ (only_flush hk))

theorem only_general {k : Cmd F} (hk : k.Only bodyV bodyS) : (general k).Only bodyV bodyS := by
  refine fun p t => only_bins (fun b k hk => ?_) hk
  exact fun _ _ => ⟨rfl, fun _ _ => ⟨rfl, hk⟩⟩

theorem only_fast (c : Consts F) {k : Cmd F} (hk : k.Only bodyV bodyS) : (fast c k).Only bodyV bodyS :=
  only_packed _ _ _ _ (only_packed _ _ _ _ (only_packed _ _ _ _ (only_packed _ _ _ _ (only_packed _ _ _ _ hk))))

theorem only_body (c : Consts F) (i : BitVec 32) : (body c i).Only bodyV bodyS := by
  have hr : ∀ f, Cmd.Only bodyV bodyS (.cond (nz (Scalar.xori (Scalar.cmpi .eq f 1#32) 1#1)) (general (.exit f)) (.exit f) : Cmd F) :=
    fun f => ⟨only_general trivial, trivial⟩
  have hm : ∀ f, Cmd.Only bodyV bodyS (.cond (nz (Scalar.cmpi .eq f 1#32))
      (fast c (.cond (nz (Scalar.xori (Scalar.cmpi .eq f 1#32) 1#1)) (general (.exit f)) (.exit f)))
      (.cond (nz (Scalar.xori (Scalar.cmpi .eq f 1#32) 1#1)) (general (.exit f)) (.exit f)) : Cmd F) := fun f =>
    ⟨only_fast c (hr f), hr f⟩
  exact ⟨only_prologue hm, hm⟩

theorem only_results (c : Consts F) {k : Cmd F} (hk : k.Only (fun _ => false) finalS) : (results c k).Only (fun _ => false) finalS := by
  refine fun _ => only_fold _ (fun b a k hk => ?_) _ _ _ _ _ fun s => ?_
  · exact fun _ _ => hk _
  · refine fun _ => ⟨rfl, only_fold _ (fun b a k hk => ?_) _ _ _ _ _ fun s => only_bins (fun b k hk => ?_) hk⟩
    · exact fun _ _ _ => ⟨rfl, hk _⟩
    · exact fun _ _ => ⟨rfl, hk⟩

theorem only_drain {k : Cmd F} (hk : k.Only (fun _ => false) finalS) : (drain k).Only (fun _ => false) finalS := by
  refine fun _ _ _ => ⟨rfl, only_bins (fun b k hk => ?_) hk⟩
  exact fun _ _ => ⟨rfl, hk⟩

theorem only_final (c : Consts F) (i f : BitVec 32) : (final c i f).Only (fun _ => false) finalS :=
  ⟨⟨only_drain (only_results c trivial), only_results c trivial⟩, trivial⟩

end Body

/-- What the body does to the ten buffers at grid step `i`. -/
def step [FloatOps F] (k : Consts F) (i : BitVec 32) : St F → St F :=
  (body k i).run fun f st => (final k i f).run (fun _ st => st) st

section Step
variable [FloatOps F] (k : Consts F) (i : BitVec 32) (st : St F)

theorem step_p : (step k i st).v .p = st.v .p :=
  Cmd.run_v_of_only .p rfl (fun f st => Cmd.run_v_of_only .p rfl (fun _ _ => rfl) _ (only_final k i f) st) _ (only_body k i) st

theorem step_t : (step k i st).v .t = st.v .t :=
  Cmd.run_v_of_only .t rfl (fun f st => Cmd.run_v_of_only .t rfl (fun _ _ => rfl) _ (only_final k i f) st) _ (only_body k i) st

theorem step_ema : (step k i st).s .ema = st.s .ema :=
  Cmd.run_s_of_only .ema rfl (fun f st => Cmd.run_s_of_only .ema rfl (fun _ _ => rfl) _ (only_final k i f) st) _ (only_body k i) st

/-- Before the last step the final part does nothing. -/
theorem final_of_ne (f : BitVec 32) (hi : nz (Scalar.cmpi .eq i 15#32) ≠ 1#1) (R : BitVec 32 → St F → St F) : (final k i f).run R st = st := by
  simp only [final, Cmd.run, if_neg hi]

theorem step_loss (hi : nz (Scalar.cmpi .eq i 15#32) ≠ 1#1) : (step k i st).s .loss = st.s .loss :=
  Cmd.run_s_of_only .loss rfl (fun f st => by rw [final_of_ne k i st f hi]) _ (only_body k i) st

theorem step_emao (hi : nz (Scalar.cmpi .eq i 15#32) ≠ 1#1) : (step k i st).s .emao = st.s .emao :=
  Cmd.run_s_of_only .emao rfl (fun f st => by rw [final_of_ne k i st f hi]) _ (only_body k i) st

end Step

end Cert.Bce
-- ==== Proof.KernelIdealBody.lean ====
/-
  The printed body of `KernelIdeal` is the body stated as commands.
-/
module

public import proofs.«01_k».proof.Proof.Gen.KernelIdeal
public import proofs.«01_k».proof.Proof.Body

@[expose] public section

set_option maxRecDepth 100000

noncomputable section

namespace Cert.KernelIdeal

open Idealize.ShloMosaic Idealize.SL.Sem
open Facts₀

variable {F : FTy → Type} [FloatOps F] [Named F]

/-- The constants of this program. -/
def consts : Cert.Bce.Consts F := ⟨Named.named κ "inv_ln2" 0x3FB8AA3B#32, Named.named κ "clamp2" 0xC31044FE#32, Named.named κ "ln2" 0x3F317218#32⟩

/-- The memrefs the body is called with, under the buffers' names. -/
def mems (arg1 : Memref sig .tc .smem S10 .f32) (arg2 arg3 : Memref sig .tc .vmem S256x4096 .f32) (arg4 : Memref sig .tc .smem S1 .f32)
    (arg5 : Memref sig .tc .smem S10 .f32) (arg6 : Memref sig .tc .smem S2x10 .f32) (arg7 : Memref sig .tc .smem S1 .i32)
    (arg8 : Memref sig .tc .vmem S8x4096 .i32) (arg9 : Memref sig .tc .vmem S8x4096 .f32) (arg10 : Memref sig .tc .vmem S10x8x128 .f32) :
    Cert.Bce.Mems sig where
  v | .p => arg2 | .t => arg3 | .iacc => arg8 | .vacc => arg9 | .facc => arg10
  s | .ema => arg1 | .loss => arg4 | .emao => arg5 | .acc => arg6 | .flag => arg7

theorem bit_cases (x : BitVec 1) : x = 0#1 ∨ x = 1#1 := by revert x; decide

/-- The part of the final step that branches on the path taken, told apart by that path. -/
theorem part271_cases (i : grid0.Coords) (arg1 : Memref sig .tc .smem S10 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .smem S1 .f32) (harg4 : arg4.IsWhole)
    (arg5 : Memref sig .tc .smem S10 .f32) (harg5 : arg5.IsWhole) (arg6 : Memref sig .tc .smem S2x10 .f32) (harg6 : arg6.IsWhole)
    (arg7 : Memref sig .tc .smem S1 .i32) (harg7 : arg7.IsWhole) (arg8 : Memref sig .tc .vmem S8x4096 .i32) (harg8 : arg8.IsWhole)
    (arg9 : Memref sig .tc .vmem S8x4096 .f32) (harg9 : arg9.IsWhole) (arg10 : Memref sig .tc .vmem S10x8x128 .f32) (harg10 : arg10.IsWhole) (v4 : BitVec 1) {β : Type}
    (f : _ → Prog (TpuEff nD τ sig (Elt F) Λ₀ .tc) β) :
    (k0_part271 (F := F) i arg1 harg1 arg2 harg2 arg3 harg3 arg4 harg4 arg5 harg5 arg6 harg6 arg7 harg7 arg8 harg8 arg9 harg9 arg10 harg10 v4 >>= f)
      = if Bce.nz v4 = 1#1 then k0_part271 (F := F) i arg1 harg1 arg2 harg2 arg3 harg3 arg4 harg4 arg5 harg5 arg6 harg6 arg7 harg7 arg8 harg8 arg9 harg9 arg10 harg10 1#1 >>= f
        else k0_part271 (F := F) i arg1 harg1 arg2 harg2 arg3 harg3 arg4 harg4 arg5 harg5 arg6 harg6 arg7 harg7 arg8 harg8 arg9 harg9 arg10 harg10 0#1 >>= f := by
  rcases bit_cases v4 with rfl | rfl
  · rw [if_neg (by decide)]
  · rw [if_pos (by decide)]

/-- What the printed body does in the final step's region. -/
def printedResults [Facts₀] (i : grid0.Coords) (arg1 : Memref sig .tc .smem S10 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .smem S1 .f32) (harg4 : arg4.IsWhole)
    (arg5 : Memref sig .tc .smem S10 .f32) (harg5 : arg5.IsWhole) (arg6 : Memref sig .tc .smem S2x10 .f32) (harg6 : arg6.IsWhole)
    (arg7 : Memref sig .tc .smem S1 .i32) (harg7 : arg7.IsWhole) (arg8 : Memref sig .tc .vmem S8x4096 .i32) (harg8 : arg8.IsWhole)
    (arg9 : Memref sig .tc .vmem S8x4096 .f32) (harg9 : arg9.IsWhole) (arg10 : Memref sig .tc .vmem S10x8x128 .f32) (harg10 : arg10.IsWhole) (v4 : BitVec 1) :
    Prog (TpuEff nD τ sig (Elt F) Λ₀ .tc) PUnit := do
  let ⟨v17, v41, v44⟩ : Σ' (v17 : F .f32) (v41 : F .f32), F .f32 ← k0_part271 i arg1 harg1 arg2 harg2 arg3 harg3 arg4 harg4 arg5 harg5 arg6 harg6 arg7 harg7 arg8 harg8 arg9 harg9 arg10 harg10 v4
  let ⟨v69, v71, v75⟩ : Σ' (v69 : F .f32) (v71 : F .f32), F .f32 ← k0_part272 i arg1 harg1 arg2 harg2 arg3 harg3 arg4 harg4 arg5 harg5 arg6 harg6 arg7 harg7 arg8 harg8 arg9 harg9 arg10 harg10 v17 v41 v44
  let v105 : F .f32 ← k0_part273 i arg1 harg1 arg2 harg2 arg3 harg3 arg4 harg4 arg5 harg5 arg6 harg6 arg7 harg7 arg8 harg8 arg9 harg9 arg10 harg10 v69 v71 v75
  let ⟨v132, v134, v135⟩ : Σ' (v132 : F .f32) (v134 : F .f32), Elt F .f32 ← k0_part274 i arg1 harg1 arg2 harg2 arg3 harg3 arg4 harg4 arg5 harg5 arg6 harg6 arg7 harg7 arg8 harg8 arg9 harg9 arg10 harg10 v105
  let ⟨v151, v166⟩ : Σ' (v151 : F .f32), F .f32 ← k0_part275 i arg1 harg1 arg2 harg2 arg3 harg3 arg4 harg4 arg5 harg5 arg6 harg6 arg7 harg7 arg8 harg8 arg9 harg9 arg10 harg10 v132 v134 v135
  let c3_125 : Index := 3#32
  let v167 : Elt F .f32 ← smemLoad arg5 (Rect.unit (s := S10) ![3] S1.size inb_S10_S1_3) numel1_S1 rfl
  Prog.lift (.store arg5 (Rect.unit (s := S10) ![3] S1.size inb_S10_S1_3) (fun _ => v166) Finset.univ (View.stores_smem_one rfl numel1_S1) (.inl rfl))
  let c4_126 : Index := 4#32
  let v168 : Elt F .f32 ← smemLoad arg5 (Rect.unit (s := S10) ![4] S1.size inb_S10_S1_4) numel1_S1 rfl
  have v169 : F .f32 := Scalar.divf v168 v151
  have cst_127 : F .f32 := Scalar.ofBits .f32 0x41200000#32
  have v170 : F .f32 := Scalar.mulf v169 cst_127
  let c4_128 : Index := 4#32
  let v171 : Elt F .f32 ← smemLoad arg5 (Rect.unit (s := S10) ![4] S1.size inb_S10_S1_4) numel1_S1 rfl
  Prog.lift (.store arg5 (Rect.unit (s := S10) ![4] S1.size inb_S10_S1_4) (fun _ => v170) Finset.univ (View.stores_smem_one rfl numel1_S1) (.inl rfl))
  let c5_129 : Index := 5#32
  let v172 : Elt F .f32 ← smemLoad arg5 (Rect.unit (s := S10) ![5] S1.size inb_S10_S1_5) numel1_S1 rfl
  have v173 : F .f32 := Scalar.divf v172 v151
  have cst_130 : F .f32 := Scalar.ofBits .f32 0x41200000#32
  have v174 : F .f32 := Scalar.mulf v173 cst_130
  let c5_131 : Index := 5#32
  let v175 : Elt F .f32 ← smemLoad arg5 (Rect.unit (s := S10) ![5] S1.size inb_S10_S1_5) numel1_S1 rfl
  Prog.lift (.store arg5 (Rect.unit (s := S10) ![5] S1.size inb_S10_S1_5) (fun _ => v174) Finset.univ (View.stores_smem_one rfl numel1_S1) (.inl rfl))
  let c6_132 : Index := 6#32
  let v176 : Elt F .f32 ← smemLoad arg5 (Rect.unit (s := S10) ![6] S1.size inb_S10_S1_6) numel1_S1 rfl
  have v177 : F .f32 := Scalar.divf v176 v151
  have cst_133 : F .f32 := Scalar.ofBits .f32 0x41200000#32
  have v178 : F .f32 := Scalar.mulf v177 cst_133
  let c6_134 : Index := 6#32
  let v179 : Elt F .f32 ← smemLoad arg5 (Rect.unit (s := S10) ![6] S1.size inb_S10_S1_6) numel1_S1 rfl
  Prog.lift (.store arg5 (Rect.unit (s := S10) ![6] S1.size inb_S10_S1_6) (fun _ => v178) Finset.univ (View.stores_smem_one rfl numel1_S1) (.inl rfl))
  let c7_135 : Index := 7#32
  let v180 : Elt F .f32 ← smemLoad arg5 (Rect.unit (s := S10) ![7] S1.size inb_S10_S1_7) numel1_S1 rfl
  have v181 : F .f32 := Scalar.divf v180 v151
  have cst_136 : F .f32 := Scalar.ofBits .f32 0x41200000#32
  have v182 : F .f32 := Scalar.mulf v181 cst_136
  let c7_137 : Index := 7#32
  let v183 : Elt F .f32 ← smemLoad arg5 (Rect.unit (s := S10) ![7] S1.size inb_S10_S1_7) numel1_S1 rfl
  Prog.lift (.store arg5 (Rect.unit (s := S10) ![7] S1.size inb_S10_S1_7) (fun _ => v182) Finset.univ (View.stores_smem_one rfl numel1_S1) (.inl rfl))
  let c8_138 : Index := 8#32
  let v184 : Elt F .f32 ← smemLoad arg5 (Rect.unit (s := S10) ![8] S1.size inb_S10_S1_8) numel1_S1 rfl
  have v185 : F .f32 := Scalar.divf v184 v151
  have cst_139 : F .f32 := Scalar.ofBits .f32 0x41200000#32
  have v186 : F .f32 := Scalar.mulf v185 cst_139
  let c8_140 : Index := 8#32
  let v187 : Elt F .f32 ← smemLoad arg5 (Rect.unit (s := S10) ![8] S1.size inb_S10_S1_8) numel1_S1 rfl
  Prog.lift (.store arg5 (Rect.unit (s := S10) ![8] S1.size inb_S10_S1_8) (fun _ => v186) Finset.univ (View.stores_smem_one rfl numel1_S1) (.inl rfl))
  let c9_141 : Index := 9#32
  let v188 : Elt F .f32 ← smemLoad arg5 (Rect.unit (s := S10) ![9] S1.size inb_S10_S1_9) numel1_S1 rfl
  have v189 : F .f32 := Scalar.divf v188 v151
  have cst_142 : F .f32 := Scalar.ofBits .f32 0x41200000#32
  have v190 : F .f32 := Scalar.mulf v189 cst_142
  let c9_143 : Index := 9#32
  let v191 : Elt F .f32 ← smemLoad arg5 (Rect.unit (s := S10) ![9] S1.size inb_S10_S1_9) numel1_S1 rfl
  Prog.lift (.store arg5 (Rect.unit (s := S10) ![9] S1.size inb_S10_S1_9) (fun _ => v190) Finset.univ (View.stores_smem_one rfl numel1_S1) (.inl rfl))
  pure ⟨⟩

/-- The printed body up to its final step. -/
theorem body_eq (i : grid0.Coords) (arg1 : Memref sig .tc .smem S10 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .smem S1 .f32) (harg4 : arg4.IsWhole)
    (arg5 : Memref sig .tc .smem S10 .f32) (harg5 : arg5.IsWhole) (arg6 : Memref sig .tc .smem S2x10 .f32) (harg6 : arg6.IsWhole)
    (arg7 : Memref sig .tc .smem S1 .i32) (harg7 : arg7.IsWhole) (arg8 : Memref sig .tc .vmem S8x4096 .i32) (harg8 : arg8.IsWhole)
    (arg9 : Memref sig .tc .vmem S8x4096 .f32) (harg9 : arg9.IsWhole) (arg10 : Memref sig .tc .vmem S10x8x128 .f32) (harg10 : arg10.IsWhole) :
    cc0__body (F := F) i arg1 harg1 arg2 harg2 arg3 harg3 arg4 harg4 arg5 harg5 arg6 harg6 arg7 harg7 arg8 harg8 arg9 harg9 arg10 harg10
      = (Bce.body consts (BitVec.ofNat 32 (i 0).val)).toProg (mems arg1 arg2 arg3 arg4 arg5 arg6 arg7 arg8 arg9 arg10)
          fun f => if k0_cond4 i = 1#1 then printedResults i arg1 harg1 arg2 harg2 arg3 harg3 arg4 harg4 arg5 harg5 arg6 harg6 arg7 harg7 arg8 harg8 arg9 harg9 arg10 harg10 (Scalar.cmpi .eq f 1#32) else .ret ⟨⟩ := rfl

/-- The region of the final step. -/
theorem results_eq (i : grid0.Coords) (arg1 : Memref sig .tc .smem S10 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .smem S1 .f32) (harg4 : arg4.IsWhole)
    (arg5 : Memref sig .tc .smem S10 .f32) (harg5 : arg5.IsWhole) (arg6 : Memref sig .tc .smem S2x10 .f32) (harg6 : arg6.IsWhole)
    (arg7 : Memref sig .tc .smem S1 .i32) (harg7 : arg7.IsWhole) (arg8 : Memref sig .tc .vmem S8x4096 .i32) (harg8 : arg8.IsWhole)
    (arg9 : Memref sig .tc .vmem S8x4096 .f32) (harg9 : arg9.IsWhole) (arg10 : Memref sig .tc .vmem S10x8x128 .f32) (harg10 : arg10.IsWhole) (v4 : BitVec 1)
    (T : BitVec 32 → Prog (TpuEff nD τ sig (Elt F) Λ₀ .tc) PUnit) :
    printedResults (F := F) i arg1 harg1 arg2 harg2 arg3 harg3 arg4 harg4 arg5 harg5 arg6 harg6 arg7 harg7 arg8 harg8 arg9 harg9 arg10 harg10 v4
      = (Bce.Cmd.cond (Bce.nz v4) (Bce.drain (Bce.results consts .done)) (Bce.results consts .done)).toProg (mems arg1 arg2 arg3 arg4 arg5 arg6 arg7 arg8 arg9 arg10) T := by
  unfold printedResults
  rw [part271_cases]
  rfl

/-- The printed final step. -/
theorem final_eq (i : grid0.Coords) (arg1 : Memref sig .tc .smem S10 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .smem S1 .f32) (harg4 : arg4.IsWhole)
    (arg5 : Memref sig .tc .smem S10 .f32) (harg5 : arg5.IsWhole) (arg6 : Memref sig .tc .smem S2x10 .f32) (harg6 : arg6.IsWhole)
    (arg7 : Memref sig .tc .smem S1 .i32) (harg7 : arg7.IsWhole) (arg8 : Memref sig .tc .vmem S8x4096 .i32) (harg8 : arg8.IsWhole)
    (arg9 : Memref sig .tc .vmem S8x4096 .f32) (harg9 : arg9.IsWhole) (arg10 : Memref sig .tc .vmem S10x8x128 .f32) (harg10 : arg10.IsWhole) (f : BitVec 32)
    (T : BitVec 32 → Prog (TpuEff nD τ sig (Elt F) Λ₀ .tc) PUnit) :
    (if k0_cond4 i = 1#1 then printedResults (F := F) i arg1 harg1 arg2 harg2 arg3 harg3 arg4 harg4 arg5 harg5 arg6 harg6 arg7 harg7 arg8 harg8 arg9 harg9 arg10 harg10 (Scalar.cmpi .eq f 1#32) else .ret ⟨⟩)
      = (Bce.final consts (BitVec.ofNat 32 (i 0).val) f).toProg (mems arg1 arg2 arg3 arg4 arg5 arg6 arg7 arg8 arg9 arg10) T := by
  rw [results_eq _ _ _ _ _ _ _ _ _ _ _ _ _ _ _ _ _ _ _ _ _ _ T]
  rfl

end Cert.KernelIdeal
-- ==== Proof.KernelIdealRun.lean ====
/-
  The launch of `KernelIdeal`: what the body does at one grid point, the invariant carried from point to
  point, and the run of @main. The invariant is a parameter: any predicate on the contents of the
  scratch buffers that every step keeps. With `fg` set nothing is said of the two results, which is
  what the frame takes; with `fg` unset the results are those the invariant yields at the last step.
-/
module

public import proofs.«01_k».proof.Proof.Gen.KernelIdeal.Frame
public import proofs.«01_k».proof.Proof.KernelIdealBody
public import proofs.«01_k».proof.Proof.Sem
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Bce (St VB SB)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body at one grid point -/

/-- The memrefs the body is called with at point `t`. -/
abbrev memsAt (t : Fin cfg0.N) : Bce.Mems sig :=
  mems (st0_0 t) (st0_1 t) (st0_2 t) (st0_3 t) (st0_4 t) (Memref.whole cc0_scratch0) (Memref.whole cc0_scratch1) (Memref.whole cc0_scratch2)
    (Memref.whole cc0_scratch3) (Memref.whole cc0_scratch4)

/-- The number of point `t`, as the body reads it. -/
abbrev num (t : Fin cfg0.N) : BitVec 32 := BitVec.ofNat 32 (grid0.coords t 0).val

/-- At point `t` the body does `Bce.step` to the ten buffers. -/
theorem body_step (c : Dev nD) (t : Fin cfg0.N) (st : St F) :
    (Bce.Own (memsAt t) c st : sProp 𝕄) ⊢ wp frame (wpE (defs₀ (F := F)) Variants.none (c : Thread nD τ) none) Set.univ (bodyAt0 t)
      fun _ => Bce.Own (memsAt t) c (Bce.step consts (num t) st) := by
  unfold bodyAt0
  rw [body_eq]
  refine Bce.wp_cmd Variants.none c none Set.univ _ _ _ (fun f st => ?_) _ st
  rw [final_eq _ _ _ _ _ _ _ _ _ _ _ _ _ _ _ _ _ _ _ _ _ f (fun _ => .ret ⟨⟩)]
  exact Bce.wp_cmd Variants.none c none Set.univ _ _ _ (fun f st => le_wp_ret _ _ _ (⟨⟩ : PUnit) (fun _ => Bce.Own (memsAt t) c st)) _ st

theorem bigSep_VB (Φ : VB → sProp 𝕄) : bigSep Finset.univ Φ = iprop(Φ .p ∗ Φ .t ∗ Φ .iacc ∗ Φ .vacc ∗ Φ .facc) :=
  bigSep_univ_eq_bigSepL [VB.p, VB.t, VB.iacc, VB.vacc, VB.facc] (by decide) (by decide) Φ

theorem bigSep_SB (Φ : SB → sProp 𝕄) : bigSep Finset.univ Φ = iprop(Φ .ema ∗ Φ .loss ∗ Φ .emao ∗ Φ .acc ∗ Φ .flag) :=
  bigSep_univ_eq_bigSepL [SB.ema, SB.loss, SB.emao, SB.acc, SB.flag] (by decide) (by decide) Φ

/-- The ten buffers' contents at point `t`: the blocks fetched, the results' buffers at `L` and `O`, the scratch buffers
    at what `st` says. -/
def enter (c : Dev nD) (t : Fin cfg0.N) (L : Bce.S1.Idx → Elt F .f32) (O : Bce.S10.Idx → Elt F .f32) (st : St F) : St F where
  v | .p => iblk m c 1 t | .t => iblk m c 2 t | .iacc => st.v .iacc | .vacc => st.v .vacc | .facc => st.v .facc
  s | .ema => iblk m c 0 t | .loss => L | .emao => O | .acc => st.s .acc | .flag => st.s .flag

/-- The scratch buffers of core `c` at the contents `st`. -/
def scratch (c : Dev nD) (st : St F) : sProp 𝕄 :=
  iprop(owns (c : Thread nD τ) (Memref.whole cc0_scratch2) fullShare (st.v .iacc) ∗ owns (c : Thread nD τ) (Memref.whole cc0_scratch3) fullShare (st.v .vacc)
    ∗ owns (c : Thread nD τ) (Memref.whole cc0_scratch4) fullShare (st.v .facc) ∗ owns (c : Thread nD τ) (Memref.whole cc0_scratch0) fullShare (st.s .acc)
    ∗ owns (c : Thread nD τ) (Memref.whole cc0_scratch1) fullShare (st.s .flag))

/-! ## The proof data -/

/-- What the launch is proved of: an invariant on the scratch buffers' contents before each point, and the two results. -/
structure Track where
  inv : Dev nD → Nat → St F → Prop
  loss : Dev nD → Bce.S1.Idx → Elt F .f32
  emao : Dev nD → Bce.S10.Idx → Elt F .f32

variable (K : Track (F := F))

/-- The scratch buffers at contents of which the invariant holds, and the generator register. -/
def Phi (c : Dev nD) (n : Nat) : sProp 𝕄 := iprop((∃ st, ⌜K.inv c n st⌝ ∗ scratch c st) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => K.loss c
    | ⟨4, _⟩ => K.emao c
  Φ t := Phi K c t.val
  q _ := fullShare
  owed _ := 0

theorem A_eq (c : Dev nD) (w : Fin cfg0.W) : (dats m K 0 c).A w = V m c (Pipeline.arrRef spec0 w) := rfl

/-- The windows of the two results. -/
def fgt (fg : Bool) : Fin 5 → Bool | ⟨3, _⟩ => fg | ⟨4, _⟩ => fg | _ => false

/-- What is asked of the invariant: every step keeps it, and the last step leaves the results. -/
structure Kept (fg : Bool) : Prop where
  step : ∀ c (t : Fin cfg0.N) L O st, K.inv c t.val st → K.inv c (t.val + 1) (Bce.step consts (num t) (enter m c t L O st))
  last : fg = false → ∀ c (t : Fin cfg0.N) L O st, t.val = 15 → K.inv c t.val st →
    (Bce.step consts (num t) (enter m c t L O st)).s .loss = K.loss c ∧ (Bce.step consts (num t) (enter m c t L O st)).s .emao = K.emao c

/-- Before the last point the body does not touch the results. -/
theorem not_last (t : Fin cfg0.N) (h : t.val ≠ 15) : Bce.nz (Scalar.cmpi .eq (num t) 15#32) ≠ 1#1 ∧ cfg0.idle 3 (cfg0.grid.coords t) = true
    ∧ cfg0.idle 4 (cfg0.grid.coords t) = true ∧ (cfg0.win 3).flush t = false ∧ (cfg0.win 4).flush t = false := by
  have hlt : t.val < 16 := by exact lt_of_lt_of_eq t.isLt N_0
  have h3 := flush0_3 t; have h4 := flush0_4 t
  have hm : t.val % 16 ≠ 15 := by omega
  refine ⟨?_, ?_, ?_, by simpa [hm] using h3, by simpa [hm] using h4⟩ <;>
  · rcases fin_N0 t with rfl | rfl | rfl | rfl | rfl | rfl | rfl | rfl | rfl | rfl | rfl | rfl | rfl | rfl | rfl | rfl <;>
      first | exact absurd rfl h | decide

theorem at_last (t : Fin cfg0.N) (h : t.val = 15) : cfg0.idle 3 (cfg0.grid.coords t) = false ∧ cfg0.idle 4 (cfg0.grid.coords t) = false := by
  obtain rfl : t = t0_15 := Fin.ext h
  exact ⟨by decide, by decide⟩

theorem defs₀_row (t : Fin cfg0.N) : defs₀ (F := F) .tc cfg0.body (cfg0.bodyArgs t (cfg0.slots t)) = bodyAt0 t := by
  unfold defs₀; rw [Defs.onTc_tc]

/-- The ten buffers, taken out of the windows' buffers and the scratch buffers. -/
theorem own_eq (c : Dev nD) (t : Fin cfg0.N) (st : St F) : (Bce.Own (memsAt t) c st : sProp 𝕄)
    = iprop((owns (c : Thread nD τ) (st0_1 t) fullShare (st.v .p) ∗ owns (c : Thread nD τ) (st0_2 t) fullShare (st.v .t)
        ∗ owns (c : Thread nD τ) (Memref.whole cc0_scratch2) fullShare (st.v .iacc) ∗ owns (c : Thread nD τ) (Memref.whole cc0_scratch3) fullShare (st.v .vacc)
        ∗ owns (c : Thread nD τ) (Memref.whole cc0_scratch4) fullShare (st.v .facc))
      ∗ (owns (c : Thread nD τ) (st0_0 t) fullShare (st.s .ema) ∗ owns (c : Thread nD τ) (st0_3 t) fullShare (st.s .loss)
        ∗ owns (c : Thread nD τ) (st0_4 t) fullShare (st.s .emao) ∗ owns (c : Thread nD τ) (Memref.whole cc0_scratch0) fullShare (st.s .acc)
        ∗ owns (c : Thread nD τ) (Memref.whole cc0_scratch1) fullShare (st.s .flag))) := by
  unfold Bce.Own; rw [bigSep_VB, bigSep_SB]; rfl

/-- What the windows' buffers hold before the body: the blocks fetched, the results' buffers at anything. -/
def pre (c : Dev nD) (t : Fin cfg0.N) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t))

/-- The body at point `t`, from the invariant and the windows' buffers, the results' buffers at `L` and `O`: afterwards
    the invariant of the next point holds and the results' buffers are what `Bce.step` leaves. -/
theorem body_inv (fg : Bool) (hK : Kept m K fg) (c : Dev nD) (t : Fin cfg0.N) (L : Bce.S1.Idx → Elt F .f32) (O : Bce.S10.Idx → Elt F .f32) :
    (iprop(Phi K c t.val ∗ pre m c t ∗ owns (c : Thread nD τ) (st0_3 t) fullShare L ∗ owns (c : Thread nD τ) (st0_4 t) fullShare O) : sProp 𝕄)
      ⊢ wp frame (wpE (defs₀ (F := F)) Variants.none (c : Thread nD τ) none) Set.univ (bodyAt0 t) fun _ =>
        iprop(Phi K c (t.val + 1) ∗ pre m c t ∗ ∃ st, ⌜K.inv c t.val st⌝
          ∗ owns (c : Thread nD τ) (st0_3 t) fullShare ((Bce.step consts (num t) (enter m c t L O st)).s .loss)
          ∗ owns (c : Thread nD τ) (st0_4 t) fullShare ((Bce.step consts (num t) (enter m c t L O st)).s .emao)) := by
  have go : ∀ st, K.inv c t.val st → (iprop(Bce.Own (memsAt t) c (enter m c t L O st) ∗ ∃ r, prngReg c r) : sProp 𝕄)
      ⊢ wp frame (wpE (defs₀ (F := F)) Variants.none (c : Thread nD τ) none) Set.univ (bodyAt0 t) fun _ =>
        iprop(Phi K c (t.val + 1) ∗ pre m c t ∗ ∃ st, ⌜K.inv c t.val st⌝
          ∗ owns (c : Thread nD τ) (st0_3 t) fullShare ((Bce.step consts (num t) (enter m c t L O st)).s .loss)
          ∗ owns (c : Thread nD τ) (st0_4 t) fullShare ((Bce.step consts (num t) (enter m c t L O st)).s .emao)) := by
    intro st hst
    refine ((Laws.sep_mono_left (body_step c t _)).trans (wp_frame_r _ _ _)).trans (wp_mono _ _ _ fun _ => ?_)
    rw [own_eq, Bce.step_p, Bce.step_t, Bce.step_ema]
    unfold Phi pre scratch
    iintro ⟨⟨⟨H1, H2, Hi, Hv, Hf⟩, ⟨H0, H3, H4, Ha, Hg⟩⟩, Hr⟩
    isplitl [Hi Hv Hf Ha Hg Hr]
    · isplitl [Hi Hv Hf Ha Hg]
      · iexists (Bce.step consts (num t) (enter m c t L O st))
        isplitr
        · ipureintro; exact hK.step c t L O st hst
        · iframe
      · iexact Hr
    · isplitl [H0 H1 H2]
      · isplitl [H0]
        · iexact H0
        · isplitl [H1]
          · iexact H1
          · iexact H2
      · iexists st
        isplitr
        · ipureintro; exact hst
        · iframe
  unfold Phi pre scratch at *
  iintro ⟨⟨⟨%st, %hst, Hi, Hv, Hf, Ha, Hg⟩, Hr⟩, ⟨H0, H1, H2⟩, H3, H4⟩
  iapply (go st hst)
  isplitr [Hr]
  · rw [own_eq]
    isplitl [H1 H2 Hi Hv Hf]
    · isplitl [H1]
      · iexact H1
      · isplitl [H2]
        · iexact H2
        · isplitl [Hi]
          · iexact Hi
          · isplitl [Hv]
            · iexact Hv
            · iexact Hf
    · isplitl [H0]
      · iexact H0
      · isplitl [H3]
        · iexact H3
        · isplitl [H4]
          · iexact H4
          · isplitl [Ha]
            · iexact Ha
            · iexact Hg
  · iexact Hr

/-- What the body leaves in the window of a result. -/
def leaves (fg : Bool) (c : Dev nD) (t : Fin cfg0.N) (w : Fin cfg0.W) : sProp 𝕄 :=
  match fg with
  | true => iprop(∃ X, owns (c : Thread nD τ) ((cfg0.win w).stage (cfg0.slots t w)) fullShare X)
  | false => match cfg0.idle w (cfg0.grid.coords t) with
    | true => match (cfg0.win w).flush t with
      | false => iprop(∃ d, owns (c : Thread nD τ) ((cfg0.win w).stage (cfg0.slots t w)) fullShare ((dats m K 0 c).before w t d))
      | true => owns (c : Thread nD τ) ((cfg0.win w).stage (cfg0.slots t w)) fullShare ((dats m K 0 c).after w t)
    | false => owns (c : Thread nD τ) ((cfg0.win w).stage (cfg0.slots t w)) fullShare ((dats m K 0 c).after w t)

theorem leaves_kept (c : Dev nD) (t : Fin cfg0.N) (w : Fin cfg0.W) (hi : cfg0.idle w (cfg0.grid.coords t) = true) (hf : (cfg0.win w).flush t = false) :
    leaves m K false c t w
      = iprop(∃ d, owns (c : Thread nD τ) ((cfg0.win w).stage (cfg0.slots t w)) fullShare ((dats m K 0 c).before w t d)) := by
  unfold leaves; rw [hi, hf]

theorem leaves_done (c : Dev nD) (t : Fin cfg0.N) (w : Fin cfg0.W) (hi : cfg0.idle w (cfg0.grid.coords t) = false) :
    leaves m K false c t w = owns (c : Thread nD τ) ((cfg0.win w).stage (cfg0.slots t w)) fullShare ((dats m K 0 c).after w t) := by
  unfold leaves; rw [hi]

/-- What the body finds in the window of a result. -/
def finds (fg : Bool) (c : Dev nD) (t : Fin cfg0.N) (w : Fin cfg0.W) : sProp 𝕄 :=
  match fg with
  | true => iprop(∃ X, owns (c : Thread nD τ) ((cfg0.win w).stage (cfg0.slots t w)) fullShare X)
  | false => iprop(∃ d, owns (c : Thread nD τ) ((cfg0.win w).stage (cfg0.slots t w)) fullShare ((dats m K 0 c).before w t d))

/-- The results' windows before the body: at some contents which, left alone, are found again. -/
theorem finds_leaves (fg : Bool) (hK : Kept m K fg) (c : Dev nD) (t : Fin cfg0.N) :
    (iprop(finds m K fg c t 3 ∗ finds m K fg c t 4) : sProp 𝕄) ⊢ iprop(∃ L O, (owns (c : Thread nD τ) (st0_3 t) fullShare L ∗ owns (c : Thread nD τ) (st0_4 t) fullShare O)
      ∗ ⌜∀ st, K.inv c t.val st → (iprop(owns (c : Thread nD τ) (st0_3 t) fullShare ((Bce.step consts (num t) (enter m c t L O st)).s .loss)
          ∗ owns (c : Thread nD τ) (st0_4 t) fullShare ((Bce.step consts (num t) (enter m c t L O st)).s .emao)) : sProp 𝕄)
            ⊢ iprop(leaves m K fg c t 3 ∗ leaves m K fg c t 4)⌝) := by
  cases fg with
  | true =>
    unfold finds
    iintro ⟨⟨%L, H3⟩, ⟨%O, H4⟩⟩
    iexists L; iexists O
    isplitl
    · isplitl [H3]
      · iexact H3
      · iexact H4
    · ipureintro
      intro st _
      exact Laws.sep_mono (exists_intro _) (exists_intro _)
  | false =>
    unfold finds
    iintro ⟨⟨%d, H3⟩, ⟨%e, H4⟩⟩
    iexists ((dats m K 0 c).before 3 t d); iexists ((dats m K 0 c).before 4 t e)
    isplitl
    · isplitl [H3]
      · iexact H3
      · iexact H4
    · ipureintro
      intro st hst
      by_cases h : t.val = 15
      · obtain ⟨h3, h4⟩ := at_last t h
        obtain ⟨e3, e4⟩ := hK.last rfl c t ((dats m K 0 c).before 3 t d) ((dats m K 0 c).before 4 t e) st h hst
        rw [e3, e4, leaves_done m K c t 3 h3, leaves_done m K c t 4 h4]
        exact Laws.sep_mono (.rfl : owns (c : Thread nD τ) (st0_3 t) fullShare (K.loss c) ⊢ _) (.rfl : owns (c : Thread nD τ) (st0_4 t) fullShare (K.emao c) ⊢ _)
      · obtain ⟨hi, h3, h4, f3, f4⟩ := not_last t h
        rw [Bce.step_loss _ _ _ hi, Bce.step_emao _ _ _ hi, leaves_kept m K c t 3 h3 f3, leaves_kept m K c t 4 h4 f4]
        exact Laws.sep_mono (exists_intro (Φ := fun d => owns (c : Thread nD τ) (st0_3 t) fullShare ((dats m K 0 c).before 3 t d)) d)
          (exists_intro (Φ := fun d => owns (c : Thread nD τ) (st0_4 t) fullShare ((dats m K 0 c).before 4 t d)) e)

/-- The body at every grid point keeps the launch's accounts. -/
theorem body_obligation (fg : Bool) (hK : Kept m K fg) (c : Dev nD) :
    BodyObligation (dats m K 0 c) (defs₀ (F := F)) Variants.none () Set.univ (fgt fg) := fun t => by
  have h0 := fun d => before0_0_of m (dats m K 0 c) (A_eq m K c 0) (fun _ => rfl) t d
  have h1 := fun d => before0_1_of m (dats m K 0 c) (A_eq m K c 1) (fun _ => rfl) t d
  have h2 := fun d => before0_2_of m (dats m K 0 c) (A_eq m K c 2) (fun _ => rfl) t d
  rw [defs₀_row, bigSep_W0, bigSep_W0]
  have goal : (iprop(Phi K c t.val ∗ (dats m K 0 c).owesAt () t.castSucc ∗ pre m c t ∗ finds m K fg c t 3 ∗ finds m K fg c t 4) : sProp 𝕄)
      ⊢ wp frame (wpE (defs₀ (F := F)) Variants.none (c : Thread nD τ) none) Set.univ (bodyAt0 t) fun _ =>
        iprop(Phi K c (t.val + 1) ∗ (dats m K 0 c).owesAt () t.succ ∗ pre m c t ∗ leaves m K fg c t 3 ∗ leaves m K fg c t 4) := by
    have hgo : ∀ L O, (∀ st, K.inv c t.val st → (iprop(owns (c : Thread nD τ) (st0_3 t) fullShare ((Bce.step consts (num t) (enter m c t L O st)).s .loss)
          ∗ owns (c : Thread nD τ) (st0_4 t) fullShare ((Bce.step consts (num t) (enter m c t L O st)).s .emao)) : sProp 𝕄)
            ⊢ iprop(leaves m K fg c t 3 ∗ leaves m K fg c t 4)) →
        (iprop((Phi K c t.val ∗ pre m c t ∗ owns (c : Thread nD τ) (st0_3 t) fullShare L ∗ owns (c : Thread nD τ) (st0_4 t) fullShare O)
          ∗ (dats m K 0 c).owesAt () t.castSucc) : sProp 𝕄)
        ⊢ wp frame (wpE (defs₀ (F := F)) Variants.none (c : Thread nD τ) none) Set.univ (bodyAt0 t) fun _ =>
        iprop(Phi K c (t.val + 1) ∗ (dats m K 0 c).owesAt () t.succ ∗ pre m c t ∗ leaves m K fg c t 3 ∗ leaves m K fg c t 4) := by
      intro L O hl
      refine ((Laws.sep_mono_left (body_inv m K fg hK c t L O)).trans (wp_frame_r _ _ _)).trans (wp_mono _ _ _ fun _ => ?_)
      iintro ⟨⟨Hp, Hw, %st, %hst, H⟩, Ho⟩
      isplitl [Hp]
      · iexact Hp
      · isplitl [Ho]
        · iexact Ho
        · isplitl [Hw]
          · iexact Hw
          · iapply (hl st hst)
            iexact H
    iintro ⟨Hp, Ho, Hw, Hf⟩
    ihave Hl := finds_leaves m K fg hK c t $$ Hf
    icases Hl with ⟨%L, %O, H, %hl⟩
    iapply (hgo L O hl)
    isplitr [Ho]
    · isplitl [Hp]
      · iexact Hp
      · isplitl [Hw]
        · iexact Hw
        · iexact H
    · iexact Ho
  refine triple_restated goal rfl ?_ fun _ => ?_
  · have e0 : (iprop(∃ d, owns (c : Thread nD τ) ((cfg0.win 0).stage (cfg0.slots t 0)) fullShare ((dats m K 0 c).before 0 t d)) : sProp 𝕄)
        ⊢ owns (c : Thread nD τ) (st0_0 t) fullShare (iblk m c 0 t) := by
      iintro ⟨%d, H⟩; rw [h0 d]; iexact H
    have e1 : (iprop(∃ d, owns (c : Thread nD τ) ((cfg0.win 1).stage (cfg0.slots t 1)) fullShare ((dats m K 0 c).before 1 t d)) : sProp 𝕄)
        ⊢ owns (c : Thread nD τ) (st0_1 t) fullShare (iblk m c 1 t) := by
      iintro ⟨%d, H⟩; rw [h1 d]; iexact H
    have e2 : (iprop(∃ d, owns (c : Thread nD τ) ((cfg0.win 2).stage (cfg0.slots t 2)) fullShare ((dats m K 0 c).before 2 t d)) : sProp 𝕄)
        ⊢ owns (c : Thread nD τ) (st0_2 t) fullShare (iblk m c 2 t) := by
      iintro ⟨%d, H⟩; rw [h2 d]; iexact H
    show (iprop(Phi K c t.val ∗ (dats m K 0 c).owesAt () t.castSucc
      ∗ (∃ d, owns (c : Thread nD τ) ((cfg0.win 0).stage (cfg0.slots t 0)) fullShare ((dats m K 0 c).before 0 t d))
      ∗ (∃ d, owns (c : Thread nD τ) ((cfg0.win 1).stage (cfg0.slots t 1)) fullShare ((dats m K 0 c).before 1 t d))
      ∗ (∃ d, owns (c : Thread nD τ) ((cfg0.win 2).stage (cfg0.slots t 2)) fullShare ((dats m K 0 c).before 2 t d))
      ∗ finds m K fg c t 3 ∗ finds m K fg c t 4) : sProp 𝕄) ⊢ _
    iintro ⟨Hp, Ho, H0, H1, H2, H3, H4⟩
    isplitl [Hp]
    · iexact Hp
    · isplitl [Ho]
      · iexact Ho
      · isplitl [H0 H1 H2]
        · unfold pre
          isplitl [H0]
          · iapply e0; iexact H0
          · isplitl [H1]
            · iapply e1; iexact H1
            · iapply e2; iexact H2
        · isplitl [H3]
          · iexact H3
          · iexact H4
  · show _ ⊢ (iprop(Phi K c (t.val + 1) ∗ (dats m K 0 c).owesAt () t.succ ∗ owns (c : Thread nD τ) (st0_0 t) fullShare (iblk m c 0 t)
      ∗ owns (c : Thread nD τ) (st0_1 t) fullShare (iblk m c 1 t) ∗ owns (c : Thread nD τ) (st0_2 t) fullShare (iblk m c 2 t)
      ∗ leaves m K fg c t 3 ∗ leaves m K fg c t 4) : sProp 𝕄)
    unfold pre
    iintro ⟨Hp, Ho, ⟨H0, H1, H2⟩, H3, H4⟩
    isplitl [Hp]
    · iexact Hp
    · isplitl [Ho]
      · iexact Ho
      · isplitl [H0]
        · iexact H0
        · isplitl [H1]
          · iexact H1
          · isplitl [H2]
            · iexact H2
            · isplitl [H3]
              · iexact H3
              · iexact H4

/-! ## The launch -/

/-- The scratch buffers of a core, each whole at its contents. -/
theorem scratch_eq (c : Dev nD) (st : St F) : scratch c st = (iprop((((c : Thread nD τ).loc cc0_scratch2) ↦{fullShare} st.v .iacc)
    ∗ (((c : Thread nD τ).loc cc0_scratch3) ↦{fullShare} st.v .vacc) ∗ (((c : Thread nD τ).loc cc0_scratch4) ↦{fullShare} st.v .facc)
    ∗ (((c : Thread nD τ).loc cc0_scratch0) ↦{fullShare} st.s .acc) ∗ (((c : Thread nD τ).loc cc0_scratch1) ↦{fullShare} st.s .flag)) : sProp 𝕄) := by
  unfold scratch
  have e := fun (b : Ref sig .tc) (f : Buf (Elt F) ((c : Thread nD τ).loc b)) => owns_whole (Ix := Unit) (Name := ℕ) (U := UR sig nD τ) (Lvl := ℕ) (c : Thread nD τ) b fullShare f
  exact congrArg₂ _ (e cc0_scratch2 _) (congrArg₂ _ (e cc0_scratch3 _) (congrArg₂ _ (e cc0_scratch4 _) (congrArg₂ _ (e cc0_scratch0 _) (e cc0_scratch1 _))))

theorem enter_inv (c : Dev nD) (h0 : ∀ st, K.inv c 0 st) : (Pipeline.ΦA spec0 c : sProp 𝕄) ⊢ Phi K c 0 := by
  unfold Pipeline.ΦA Phi
  rw [scopedRest0_eq]
  iintro ⟨⟨⟨%i, Hi⟩, ⟨%v, Hv⟩, ⟨%f, Hf⟩, ⟨%a, Ha⟩, ⟨%g, Hg⟩⟩, Hr⟩
  isplitr [Hr]
  · iexists (⟨fun | .iacc => i | .vacc => v | .facc => f | .p => fun _ => Classical.arbitrary _ | .t => fun _ => Classical.arbitrary _,
      fun | .acc => a | .flag => g | .ema => fun _ => Classical.arbitrary _ | .loss => fun _ => Classical.arbitrary _ | .emao => fun _ => Classical.arbitrary _⟩ : St F)
    rw [scratch_eq]
    isplitr
    · ipureintro; exact h0 _
    · isplitl [Hi]
      · iexact Hi
      · isplitl [Hv]
        · iexact Hv
        · isplitl [Hf]
          · iexact Hf
          · isplitl [Ha]
            · iexact Ha
            · iexact Hg
  · iexact Hr

theorem leave_inv (c : Dev nD) (n : Nat) : Phi K c n ⊢ (Pipeline.ΦA spec0 c : sProp 𝕄) := by
  unfold Pipeline.ΦA Phi
  rw [scopedRest0_eq]
  simp only [scratch_eq]
  iintro ⟨⟨%st, -, Hi, Hv, Hf, Ha, Hg⟩, Hr⟩
  isplitr [Hr]
  · isplitl [Hi]
    · iexists (st.v .iacc); iexact Hi
    · isplitl [Hv]
      · iexists (st.v .vacc); iexact Hv
      · isplitl [Hf]
        · iexists (st.v .facc); iexact Hf
        · isplitl [Ha]
          · iexists (st.s .acc); iexact Ha
          · iexists (st.s .flag); iexact Hg
  · iexact Hr

/-- What the arguments' buffers hold at the end. -/
def ArgsKept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

set_option backward.isDefEq.respectTransparency.types false in
/-- The launch, saying nothing of the results: it runs, keeps its arguments, and ends with every semaphore at zero. -/
theorem frame_run (hK : Kept m K true) (h0 : ∀ c st, K.inv c 0 st) :
    θ_run (defs (F := F)) (onTc (τ := τ) (main (F := F))) ⟨m, fun _ => 0, ρ⟩ (fun r => (∀ c : Dev nD, ArgsKept m r c) ∧ r.2.sem = fun _ => 0) := by
  refine Pipeline.θ_run_frame_around_T_track_forget cfgs (dats m K) (0 : Fin 1) launch0
    (defs₀ (F := F)) Variants.none (fgt true) {main_v1} m ρ (main (F := F)) (fun c => (body_obligation m K true hK c).loose)
    (fun c => (dats m K 0 c).share_full fun _ => rfl) (fun _ _ => rfl) (V0 m) [hostOps1] sfx_sub sfx_fresh sfx_keeps ?_ (hmain m Variants.none)
    (A_eq m K) (fun c => enter_inv K c (h0 c)) (fun c => leave_inv K c _) _ (fun r h => ⟨fun c => ⟨?_, ?_, ?_, ?_⟩, h.2⟩)
  · intro ops hops op hop
    simp only [List.mem_cons, List.mem_nil_iff, or_false] at hops
    rcases hops with rfl
    simp only [hostOps1, List.mem_cons, List.mem_nil_iff, or_false] at hop
    rcases hop with rfl
    intro b hb
    simp only [StableHlo.reshape_writes, Finset.mem_singleton] at hb
    exact Finset.mem_singleton.mpr (Proc.devRef_injective _ hb)
  · exact (Pipeline.RDat.FramePostR.arr_in h.1 c 1 rfl).trans (V_main_arg0 m c)
  · exact (Pipeline.RDat.FramePostR.arr_in h.1 c 2 rfl).trans (V_main_arg1 m c)
  · exact ((h.1 c).2 main_arg2 (Finset.mem_sdiff.mpr ⟨Pipeline.mem_restRefs_of main_arg2 (by decide) (by decide), by decide⟩)).trans (V_main_arg2 m c)
  · exact (Pipeline.RDat.FramePostR.arr_in h.1 c 0 rfl).trans (V_main_arg3 m c)

theorem arr_loss (c : Dev nD) : (dats m K 0 c).arrAt 3 cfg0.N = K.loss c := by
  refine (dats m K 0 c).arrAt_eq_of_after_last 3 t0_15 (by decide +kernel) _ fun j => ?_
  blk_simp
  rfl

theorem arr_emao (c : Dev nD) : (dats m K 0 c).arrAt 4 cfg0.N = K.emao c := by
  refine (dats m K 0 c).arrAt_eq_of_after_last 4 t0_15 (by decide +kernel) _ fun j => ?_
  blk_simp
  rfl

theorem tail_loss (c : Dev nD) : Pipeline.afterTail₀ cfgs (dats m K) 0 (V0 m) [hostOps1] c main_v1 = shapeCast _ (K.loss c) shapeCasts_S1_S_ := by
  unfold Pipeline.afterTail₀
  show (StableHlo.reshape main_v0_0 main_v1 (rfl : (.f32 : EltTy) = .f32) shapeCasts_S1_S_ : HloOp τ sig (Elt F)).result _ main_v1 = _
  rw [StableHlo.reshape_result]
  have h := Pipeline.withArrays_arr (τ := τ) spec0 launch0.win.arr_inj c (V0 m c) (fun w => (dats m K 0 c).arrAt w cfg0.N) 3
  have h' := h.trans (arr_loss m K c)
  funext i
  exact congrArg (fun f => shapeCast _ f shapeCasts_S1_S_ i) h'

set_option backward.isDefEq.respectTransparency.types false in
/-- The launch, with its results: the array of the loss, reshaped, and the averages. -/
theorem value_run (hK : Kept m K false) (h0 : ∀ c st, K.inv c 0 st) :
    θ_run (defs (F := F)) (onTc (τ := τ) (main (F := F))) ⟨m, fun _ => 0, ρ⟩ (fun r => ∀ c : Dev nD,
      (r.2.mem ((c.tc : Thread nD τ).loc main_v1) = shapeCast _ (K.loss c) shapeCasts_S1_S_
        ∧ r.2.mem ((c.tc : Thread nD τ).loc main_v0_1) = K.emao c) ∧ ArgsKept m r c) := by
  refine (θ_run defs _ _).mono (fun r h c => ⟨⟨?_, ?_⟩, ?_⟩) (Pipeline.θ_run_frame_around_track cfgs (dats m K) (0 : Fin 1) launch0
    (defs₀ (F := F)) Variants.none m ρ (main (F := F)) (fun c => (body_obligation m K false hK c).loose)
    (fun c => (dats m K 0 c).share_full fun _ => rfl) (fun _ _ => rfl) (V0 m) [hostOps1] sfx_sub sfx_fresh sfx_keeps (hmain m Variants.none)
    (A_eq m K) (fun c => enter_inv K c (h0 c)) (fun c => leave_inv K c _))
  · exact ((h c).2 main_v1 (Pipeline.mem_restRefs_of main_v1 (by decide) (by decide))).trans (tail_loss m K c)
  · exact ((h c).1 4).trans (arr_emao m K c)
  · exact ⟨((h c).1 1).trans (((dats m K 0 c).arrAt_in 1 rfl _).trans (V_main_arg0 m c)), ((h c).1 2).trans (((dats m K 0 c).arrAt_in 2 rfl _).trans (V_main_arg1 m c)),
      ((h c).2 main_arg2 (Pipeline.mem_restRefs_of main_arg2 (by decide) (by decide))).trans (W_main_arg2 m (dats m K) c),
      ((h c).1 0).trans (((dats m K 0 c).arrAt_in 0 rfl _).trans (V_main_arg3 m c))⟩

end Cert.KernelIdeal.Hand

end
-- ==== Proof.Frames.lean ====
/- That the three programs run, keep their arguments and end with every semaphore at zero, and that the ideal kernel's named
   constants are the ones its table lists. -/
module

public import proofs.«01_k».proof.Defs
public import proofs.«01_k».proof.Proof.KernelRun
public import proofs.«01_k».proof.Proof.KernelIdealRun
public import proofs.«01_k».proof.Proof.Gen.ReferenceIdeal
public import proofs.«01_k».proof.Proof.Gen.ReferenceIdeal.Run
public import proofs.«01_k».proof.Proof.Gen.Pre_inputs_in_range
public import Idealize.ShloMosaic.Adequacy
public import Idealize.ShloMosaic.Init

@[expose] public section

noncomputable section

namespace Cert.Frames

open Idealize.ShloMosaic Idealize.SL.Sem

/-- Nothing asked of the scratch buffers, nothing said of the results. -/
def freeKernel : Cert.Kernel.Hand.Track (F := Bits) := ⟨fun _ _ _ => True, fun _ _ => Classical.arbitrary _, fun _ _ => Classical.arbitrary _⟩

/-- The same for the ideal kernel. -/
def freeIdeal : Cert.KernelIdeal.Hand.Track (F := Ideal) := ⟨fun _ _ _ => True, fun _ _ => Classical.arbitrary _, fun _ _ => Classical.arbitrary _⟩

theorem kernel : Cert.quiescent_Kernel := fun m ρ _ =>
  Cert.Kernel.Hand.frame_run m ρ freeKernel ⟨fun _ _ _ _ _ _ => trivial, fun h => nomatch h⟩ fun _ _ => trivial

theorem ideal : Cert.quiescent_KernelIdeal := fun m ρ _ =>
  Cert.KernelIdeal.Hand.frame_run m ρ freeIdeal ⟨fun _ _ _ _ _ _ => trivial, fun h => nomatch h⟩ fun _ _ => trivial

theorem ideal_pre : Cert.quiescent_KernelIdeal_pre_inputs_in_range := fun m ρ _ =>
  Cert.KernelIdeal.Hand.frame_run m ρ freeIdeal ⟨fun _ _ _ _ _ _ => trivial, fun h => nomatch h⟩ fun _ _ => trivial

theorem reference : Cert.quiescent_ReferenceIdeal := fun m ρ _ =>
  (θ_run Cert.ReferenceIdeal.defs _ _).mono (fun r h => And.intro (fun c => (h c).2.2) (sem_eq_zero_of_no_sems (by decide) r.2))
    (Cert.ReferenceIdeal.Value.run (F := Ideal) m ρ)

theorem reference_pre : Cert.quiescent_ReferenceIdeal_pre_inputs_in_range := fun m ρ _ =>
  (θ_run Cert.ReferenceIdeal.defs _ _).mono (fun r h => And.intro (fun c => (h c).2.2) (sem_eq_zero_of_no_sems (by decide) r.2))
    (Cert.ReferenceIdeal.Value.run (F := Ideal) m ρ)

theorem preserves : Cert.preserves_Kernel_KernelIdeal :=
  ⟨IdealRules.named_const.statement Cert.KernelIdeal.κ "inv_ln2" .f32 0x3FB8AA3B#32 (((Real.log 2)⁻¹ : ℝ) : EReal) rfl,
    IdealRules.named_const.statement Cert.KernelIdeal.κ "clamp2" .f32 0xC31044FE#32 ((-(100 * (Real.log 2)⁻¹) : ℝ) : EReal) rfl,
    IdealRules.named_const.statement Cert.KernelIdeal.κ "ln2" .f32 0x3F317218#32 ((Real.log 2 : ℝ) : EReal) rfl⟩

end Cert.Frames

end
-- ==== Proof.Elem.lean ====
/-
  One element of the arrays over the extended reals: the cross-entropy `raw` and the bin `bin` of a
  prediction and a target, and that the ways the programs compute them agree.
-/
module

public import proofs.«01_k».proof.Proof.Body
public import Idealize.ShloMosaic.Lib.PackedFields
public import Idealize.ShloMosaic.Lib.IdealHost
public import Idealize.ShloMosaic.PureOps.Ideal

@[expose] public section

noncomputable section

namespace Cert.Bce

open Idealize.ShloMosaic Idealize.ShloMosaic.PackedFields

/-! ## The literals -/

theorem lit_zero : Ideal.ofBits .f32 0x00000000#32 = ((0 : ℝ) : EReal) := by simp [Ideal.ofBits, Ideal.ieee, -EReal.coe_mul]
theorem lit_one : Ideal.ofBits .f32 0x3F800000#32 = ((1 : ℝ) : EReal) := by simp [Ideal.ofBits, Ideal.ieee, -EReal.coe_mul]; norm_num
theorem lit_ten : Ideal.ofBits .f32 0x41200000#32 = ((10 : ℝ) : EReal) := by simp [Ideal.ofBits, Ideal.ieee, -EReal.coe_mul]; norm_num
theorem lit_clamp : Ideal.ofBits .f32 0xC2C80000#32 = ((-100 : ℝ) : EReal) := by simp [Ideal.ofBits, Ideal.ieee, -EReal.coe_mul]; norm_num
theorem lit_nine : Ideal.ofBits .f32 0x41100000#32 = ((9 : ℝ) : EReal) := by simp [Ideal.ofBits, Ideal.ieee, -EReal.coe_mul]; norm_num
theorem lit_count : Ideal.ofBits .f32 0x4B800000#32 = ((16777216 : ℝ) : EReal) := by simp [Ideal.ofBits, Ideal.ieee, -EReal.coe_mul]; norm_num
theorem lit_bin : ∀ b : Fin 10, Ideal.ofBits .f32 (binLit b) = ((b.val : ℝ) : EReal) := by
  intro b
  fin_cases b <;> simp [binLit, Ideal.ofBits, Ideal.ieee, -EReal.coe_mul] <;> norm_num

/-! ## The cross-entropy and the bin of one element -/

/-- The logarithm cut off at -100, as torch's loss has it. -/
def clog (x : ℝ) : ℝ := if x ≤ 0 then -100 else max (Real.log x) (-100)

/-- The cross-entropy of a prediction and a target. -/
def rawR (x y : ℝ) : ℝ := -(y * clog x + (1 - y) * clog (1 - x))

/-- The cross-entropy of two extended reals, read as reals. -/
def raw (p t : EReal) : ℝ := rawR p.toReal t.toReal

/-- The bin of the distance between a prediction and a target. -/
def bin (p t : EReal) : Fin 10 := ⟨min ⌊|p.toReal - t.toReal| * 10⌋₊ 9, by omega⟩

/-- A prediction and a target that the claim is about: a target in the unit interval and a prediction nearer to it than one. -/
def Ok (p t : EReal) : Prop := ∃ x y : ℝ, p = x ∧ t = y ∧ 0 ≤ y ∧ y ≤ 1 ∧ |x - y| < 1

theorem max_coe (x y : ℝ) : max (x : EReal) (y : EReal) = ((max x y : ℝ) : EReal) := (EReal.coe_strictMono.monotone.map_max).symm
theorem min_coe (x y : ℝ) : min (x : EReal) (y : EReal) = ((min x y : ℝ) : EReal) := (EReal.coe_strictMono.monotone.map_min).symm

theorem abs_coe (x : ℝ) : max (x : EReal) (-(x : EReal)) = ((|x| : ℝ) : EReal) := by
  rw [← EReal.coe_neg, max_coe]; rfl

/-- A cut-off logarithm. -/
theorem max_log (x : ℝ) : max (Ideal.log (x : EReal)) ((-100 : ℝ) : EReal) = (clog x : EReal) := by
  rw [Ideal.log_coe, clog]
  split
  · exact max_eq_right bot_le
  · exact max_coe _ _

/-- A cut-off binary logarithm. -/
theorem max_log2 (x : ℝ) : max (Ideal.log (x : EReal) * (((Real.log 2)⁻¹ : ℝ) : EReal)) ((-(100 * (Real.log 2)⁻¹) : ℝ) : EReal)
    = ((clog x * (Real.log 2)⁻¹ : ℝ) : EReal) := by
  have h2 : (0 : ℝ) < (Real.log 2)⁻¹ := inv_pos.mpr (Real.log_pos (by norm_num))
  rw [Ideal.log_coe, clog]
  split
  · rw [EReal.bot_mul_coe_of_pos h2, max_eq_right bot_le]; congr 1; ring
  · rw [← EReal.coe_mul, max_coe, max_mul_of_nonneg _ _ h2.le]; congr 2; ring

/-- The loss in binary logarithms, its sign left out. -/
theorem raw_fast {p t : EReal} (h : Ok p t) :
    t * (max (Ideal.log p * (((Real.log 2)⁻¹ : ℝ) : EReal)) ((-(100 * (Real.log 2)⁻¹) : ℝ) : EReal)
        - max (Ideal.log (((1 : ℝ) : EReal) - p) * (((Real.log 2)⁻¹ : ℝ) : EReal)) ((-(100 * (Real.log 2)⁻¹) : ℝ) : EReal))
      + max (Ideal.log (((1 : ℝ) : EReal) - p) * (((Real.log 2)⁻¹ : ℝ) : EReal)) ((-(100 * (Real.log 2)⁻¹) : ℝ) : EReal)
      = ((-(raw p t) * (Real.log 2)⁻¹ : ℝ) : EReal) := by
  obtain ⟨x, y, rfl, rfl, -⟩ := h
  rw [← EReal.coe_sub, max_log2, max_log2, ← EReal.coe_sub, ← EReal.coe_mul, ← EReal.coe_add]
  congr 1; simp only [raw, rawR, EReal.toReal_coe]; ring

/-- The loss of the general path. -/
theorem raw_general {p t : EReal} (h : Ok p t) :
    ((0 : ℝ) : EReal) - (t * (max (Ideal.log p) ((-100 : ℝ) : EReal) - max (Ideal.log1p (((0 : ℝ) : EReal) - p)) ((-100 : ℝ) : EReal))
      + max (Ideal.log1p (((0 : ℝ) : EReal) - p)) ((-100 : ℝ) : EReal)) = ((raw p t : ℝ) : EReal) := by
  obtain ⟨x, y, rfl, rfl, -⟩ := h
  have e : Ideal.log1p (((0 : ℝ) : EReal) - (x : EReal)) = Ideal.log ((1 - x : ℝ) : EReal) := by
    rw [Ideal.log1p, ← EReal.coe_sub, ← EReal.coe_one, ← EReal.coe_add]; congr 2; ring
  rw [e, max_log, max_log, ← EReal.coe_sub, ← EReal.coe_mul, ← EReal.coe_add, ← EReal.coe_sub]
  congr 1; simp only [raw, rawR, EReal.toReal_coe]; ring

/-- The loss of the reference. -/
theorem raw_reference {p t : EReal} (h : Ok p t) :
    -(t * max (Ideal.log p) ((-100 : ℝ) : EReal) + (((1 : ℝ) : EReal) - t) * max (Ideal.log1p (-p)) ((-100 : ℝ) : EReal)) = ((raw p t : ℝ) : EReal) := by
  obtain ⟨x, y, rfl, rfl, -⟩ := h
  have e : Ideal.log1p (-(x : EReal)) = Ideal.log ((1 - x : ℝ) : EReal) := by
    rw [Ideal.log1p, ← EReal.coe_neg, ← EReal.coe_one, ← EReal.coe_add]; congr 2
  rw [e, max_log, max_log, ← EReal.coe_sub, ← EReal.coe_mul, ← EReal.coe_mul, ← EReal.coe_add, ← EReal.coe_neg]
  rfl

/-- Ten times the distance. -/
theorem dist_ten {p t : EReal} (h : Ok p t) : max (p - t) (-(p - t)) * ((10 : ℝ) : EReal) = ((|p.toReal - t.toReal| * 10 : ℝ) : EReal) := by
  obtain ⟨x, y, rfl, rfl, -⟩ := h
  rw [← EReal.coe_sub, abs_coe, ← EReal.coe_mul]; rfl

theorem bin_val {p t : EReal} (h : Ok p t) : ⌊|p.toReal - t.toReal| * 10⌋ = ((bin p t).val : ℤ) := by
  obtain ⟨x, y, rfl, rfl, -, -, h⟩ := h
  simp only [bin, EReal.toReal_coe]
  have h0 : 0 ≤ |x - y| * 10 := by positivity
  have h1 : ⌊|x - y| * 10⌋₊ < 10 := (Nat.floor_lt h0).mpr (by push_cast; linarith)
  rw [min_eq_left (by omega), Int.natCast_floor_eq_floor h0]

/-- The bin as the floor of ten times the distance. -/
theorem floor_bin {p t : EReal} (h : Ok p t) :
    Ideal.liftRound Int.floor (max (p - t) (-(p - t)) * ((10 : ℝ) : EReal)) = (((bin p t).val : ℝ) : EReal) := by
  rw [dist_ten h, Ideal.liftRound_coe, bin_val h]; simp

theorem toInt_small (n : ℕ) (hn : n < 10) : BitVec.ofInt 32 (max (-(2 ^ 31 : ℕ) : ℤ) (min ((2 ^ 31 : ℕ) - 1 : ℤ) (n : ℤ))) = BitVec.ofNat 32 n := by
  rw [min_eq_right (by push_cast; omega), max_eq_right (by push_cast; omega)]; rfl

/-- The bin as a word, truncated from ten times the distance. -/
theorem fptosi_bin {p t : EReal} (h : Ok p t) :
    Ideal.fptosi 32 (max (p - t) (-(p - t)) * ((10 : ℝ) : EReal)) = BitVec.ofNat 32 (bin p t).val := by
  rw [dist_ten h, Ideal.fptosi, Ideal.toIntClamped_coe, if_pos (by positivity), bin_val h]
  exact toInt_small _ (bin p t).isLt

/-- The bin as a word, truncated from the floor. -/
theorem fptosi_nat (n : ℕ) (hn : n < 10) : Ideal.fptosi 32 ((n : ℝ) : EReal) = BitVec.ofNat 32 n := by
  rw [Ideal.fptosi, Ideal.toIntClamped_coe, if_pos (by positivity), show ⌊(n : ℝ)⌋ = (n : ℤ) by simp]
  exact toInt_small _ hn

/-- The floor, cut off at nine, against a bin's number. -/
theorem cmp_bin {p t : EReal} (h : Ok p t) (b : Fin 10) :
    Ideal.cmp .oeq (min (Ideal.liftRound Int.floor (max (p - t) (-(p - t)) * ((10 : ℝ) : EReal))) ((9 : ℝ) : EReal)) ((b.val : ℝ) : EReal)
      = if bin p t = b then 1#1 else 0#1 := by
  rw [floor_bin h, min_coe, min_eq_left (by have := (bin p t).isLt; exact_mod_cast Nat.le_of_lt_succ this)]
  have e : (((bin p t).val : ℝ) : EReal) = ((b.val : ℝ) : EReal) ↔ bin p t = b := by
    rw [EReal.coe_eq_coe_iff, Nat.cast_inj, Fin.ext_iff]
  simp only [Ideal.cmp, e]
  split <;> simp [*]

/-! ## Ten 3-bit digits in a word -/

/-- A bin's digit. -/
theorem one_shli (u : ArithUnit) (b : Fin 10) :
    IntOp.shli u 1#32 (IntOp.muli (BitVec.ofNat 32 b.val) 3#32) = BitVec.ofNat 32 (1 <<< (3 * b.val)) := by
  fin_cases b <;> rfl

/-- `W` packs the counts `cnt` of the ten bins, none of them over `n`. -/
def Packed (n : ℕ) (cnt : Fin 10 → ℕ) (W : BitVec 32) : Prop :=
  W.toNat < 2 ^ 30 ∧ ∀ b : Fin 10, field 3 b.val W.toNat = cnt b ∧ cnt b ≤ n

theorem digit_toNat (k : Fin 10) : (BitVec.ofNat 32 (1 <<< (3 * k.val))).toNat = 1 <<< (3 * k.val) := by
  fin_cases k <;> rfl

theorem packed_digit (k : Fin 10) : Packed 1 (fun b => if k = b then 1 else 0) (BitVec.ofNat 32 (1 <<< (3 * k.val))) := by
  refine ⟨by fin_cases k <;> decide, fun b => ⟨?_, by show (if k = b then 1 else 0) ≤ 1; split <;> omega⟩⟩
  rw [digit_toNat, field_one_shiftLeft 3 _ _ (by decide)]
  simp only [Fin.ext_iff, eq_comm]

theorem packed_add {n : ℕ} {cnt : Fin 10 → ℕ} {W : BitVec 32} (h : Packed n cnt W) (hn : n < 7) (k : Fin 10) :
    Packed (n + 1) (fun b => cnt b + if k = b then 1 else 0) (IntOp.addi W (BitVec.ofNat 32 (1 <<< (3 * k.val)))) := by
  obtain ⟨hW, hf⟩ := h
  obtain ⟨hD, hd⟩ := packed_digit k
  have hs : ∀ i < 10, field 3 i W.toNat + field 3 i (BitVec.ofNat 32 (1 <<< (3 * k.val))).toNat < 2 ^ 3 := fun i hi => by
    have h1 := hf ⟨i, hi⟩
    have h2 := hd ⟨i, hi⟩
    simp only at h1 h2
    omega
  have hlt := add_lt_of_fields 3 10 _ _ hW hD hs
  have e : (IntOp.addi W (BitVec.ofNat 32 (1 <<< (3 * k.val)))).toNat = W.toNat + (BitVec.ofNat 32 (1 <<< (3 * k.val))).toNat := by
    unfold IntOp.addi
    rw [BitVec.toNat_add, Nat.mod_eq_of_lt (by omega)]
  refine ⟨by rw [e]; exact hlt, fun b => ?_⟩
  have h1 := hf b
  have h2 := hd b
  rw [e, field_add 3 _ _ _ fun i hi => hs i (by omega), h1.1, h2.1]
  exact ⟨rfl, Nat.add_le_add h1.2 h2.2⟩

/-- One digit, read out of the word. -/
theorem digit_of_packed (u : ArithUnit) {n : ℕ} {cnt : Fin 10 → ℕ} {W : BitVec 32} (h : Packed n cnt W) (b : Fin 10) :
    IntOp.andi (IntOp.shrsi u W (BitVec.ofNat 32 (3 * b.val))) 7#32 = BitVec.ofNat 32 (cnt b) := by
  obtain ⟨hW, hf⟩ := h
  have hb : (BitVec.ofNat 32 (3 * b.val)).toNat = 3 * b.val := by rw [BitVec.toNat_ofNat]; omega
  have hm : W.msb = false := by rw [BitVec.msb_eq_false_iff_two_mul_lt]; omega
  have hc : cnt b < 2 ^ 3 := by rw [← (hf b).1]; unfold field; exact Nat.mod_lt _ (by decide)
  apply BitVec.eq_of_toNat_eq
  unfold IntOp.andi IntOp.shrsi
  rw [if_pos (by omega), BitVec.toNat_and, BitVec.sshiftRight', BitVec.toNat_sshiftRight_of_msb_false hm, hb,
    show (7#32 : BitVec 32).toNat = 2 ^ 3 - 1 from rfl, Nat.and_two_pow_sub_one_eq_mod, BitVec.toNat_ofNat, Nat.mod_eq_of_lt (a := cnt b) (by omega), ← (hf b).1]
  rfl

end Cert.Bce
-- ==== Proof.Sums.lean ====
/-
  Sums over the index sets of the arrays: over a tiling, over a reduction to one element, and over a
  row of windows that is written one window after another.
-/
module

public import proofs.«01_k».proof.Proof.Elem

@[expose] public section

noncomputable section

namespace Cert.Bce

open Idealize.ShloMosaic

/-! ## Tilings -/

/-- A sum over an index set tiled by the parts `e g`: told apart by injectivity and a count. -/
theorem sum_tiles {G T I M : Type} [Fintype G] [Fintype T] [Fintype I] [AddCommMonoid M] (e : G → T → I)
    (hinj : ∀ g j g' j', e g j = e g' j' → g = g' ∧ j = j') (hcard : Fintype.card G * Fintype.card T = Fintype.card I) (f : I → M) :
    ∑ i, f i = ∑ g, ∑ j, f (e g j) := by
  have hb : Function.Bijective (fun x : G × T => e x.1 x.2) := by
    rw [Fintype.bijective_iff_injective_and_card]
    refine ⟨fun x y h => ?_, by rw [Fintype.card_prod, hcard]⟩
    obtain ⟨h1, h2⟩ := hinj _ _ _ _ h
    exact Prod.ext h1 h2
  rw [← (Fintype.sum_bijective _ hb (fun x : G × T => f (e x.1 x.2)) f fun _ => rfl), Fintype.sum_prod_type]

theorem card_idx (s : Shape) : Fintype.card s.Idx = s.numel := (Fintype.card_congr s.rowMajor).trans (Fintype.card_fin _)

abbrev S4096x4096 : Shape := ⟨2, ![4096, 4096]⟩

/-- Row `r` and lane `l` of a block. -/
def at2 {a b : ℕ} (r : Fin a) (l : Fin b) : (⟨2, ![a, b]⟩ : Shape).Idx := fun k => match k with | 0 => r | 1 => l

theorem at2_eta {a b : ℕ} (i : (⟨2, ![a, b]⟩ : Shape).Idx) : at2 (i 0) (i 1) = i := by
  funext k; match k with | 0 => rfl | 1 => rfl

/-- Row group `g` of eight rows of a block of 256. -/
def rowsAt (g : Fin 32) (i : S8x4096.Idx) : S256x4096.Idx :=
  at2 ⟨8 * g.val + (i 0).val, by have : (i 0).val < 8 := (i 0).isLt; omega⟩ (i 1)

/-- Lane chunk `j` of 128 lanes. -/
def lanesAt (j : Fin 32) (i : S8x128.Idx) : S8x4096.Idx :=
  at2 (i 0) ⟨128 * j.val + (i 1).val, by have : (i 1).val < 128 := (i 1).isLt; omega⟩

/-- Block `n` of 256 rows. -/
def blockAt (n : Fin 16) (i : S256x4096.Idx) : S4096x4096.Idx :=
  at2 ⟨256 * n.val + (i 0).val, by have : (i 0).val < 256 := (i 0).isLt; omega⟩ (i 1)

theorem ext2 {a b : ℕ} {i j : (⟨2, ![a, b]⟩ : Shape).Idx} (h0 : (i 0).val = (j 0).val) (h1 : (i 1).val = (j 1).val) : i = j := by
  funext k; match k with | 0 => exact Fin.ext h0 | 1 => exact Fin.ext h1

section
variable {M : Type} [AddCommMonoid M]

theorem sum_rows (f : S256x4096.Idx → M) : ∑ i, f i = ∑ g, ∑ j, f (rowsAt g j) := by
  refine sum_tiles rowsAt (fun g j g' j' h => ?_) (by rw [card_idx, card_idx]; decide) f
  have h0 : 8 * g.val + (j 0).val = 8 * g'.val + (j' 0).val := congrArg (fun i : S256x4096.Idx => (i 0).val) h
  have h1 : (j 1).val = (j' 1).val := congrArg (fun i : S256x4096.Idx => (i 1).val) h
  have a : (j 0).val < 8 := (j 0).isLt
  have b : (j' 0).val < 8 := (j' 0).isLt
  exact ⟨Fin.ext (by omega), ext2 (by omega) h1⟩

theorem sum_lanes (f : S8x4096.Idx → M) : ∑ i, f i = ∑ g, ∑ j, f (lanesAt g j) := by
  refine sum_tiles lanesAt (fun g j g' j' h => ?_) (by rw [card_idx, card_idx]; decide) f
  have h0 : (j 0).val = (j' 0).val := congrArg (fun i : S8x4096.Idx => (i 0).val) h
  have h1 : 128 * g.val + (j 1).val = 128 * g'.val + (j' 1).val := congrArg (fun i : S8x4096.Idx => (i 1).val) h
  have a : (j 1).val < 128 := (j 1).isLt
  have b : (j' 1).val < 128 := (j' 1).isLt
  exact ⟨Fin.ext (by omega), ext2 h0 (by omega)⟩

theorem sum_blocks (f : S4096x4096.Idx → M) : ∑ i, f i = ∑ g, ∑ j, f (blockAt g j) := by
  refine sum_tiles blockAt (fun g j g' j' h => ?_) (by rw [card_idx, card_idx]; decide) f
  have h0 : 256 * g.val + (j 0).val = 256 * g'.val + (j' 0).val := congrArg (fun i : S4096x4096.Idx => (i 0).val) h
  have h1 : (j 1).val = (j' 1).val := congrArg (fun i : S4096x4096.Idx => (i 1).val) h
  have a : (j 0).val < 256 := (j 0).isLt
  have b : (j' 0).val < 256 := (j' 0).isLt
  exact ⟨Fin.ext (by omega), ext2 (by omega) h1⟩

/-- A reshaped array has the same total. -/
theorem sum_shapeCast {s t : Shape} (x : s.Idx → M) (h : s.ShapeCasts t) : ∑ i, shapeCast t x h i = ∑ i, x i :=
  Equiv.sum_comp (Shape.reshapeEquiv h) x

end

/-! ## Reductions to one element -/

theorem reduceAdd_one {s : Shape} {axes : List (Fin s.rank)} (h : s.Reduces axes S1) (x : s.Idx → EReal) (j : S1.Idx) :
    Ideal.reduceAdd h x j = ∑ i, x i := by
  unfold Ideal.reduceAdd
  congr 1
  ext i
  simp only [Finset.mem_filter, Finset.mem_univ, true_and, iff_true]
  funext a
  match a with | 0 => exact Fin.ext (by have h1 : ((h.drop i) 0).val < 1 := ((h.drop i) 0).isLt; have h2 : (j 0).val < 1 := (j 0).isLt; omega)

theorem sumBlock_eq (v : FVec Ideal S256x4096 .f32) : sumBlock v = ∑ i, v i :=
  (reduceAdd_one red_block _ _).trans (sum_shapeCast v cast_block)
theorem sumWide_eq (v : FVec Ideal S8x4096 .f32) : sumWide v = ∑ i, v i :=
  (reduceAdd_one red_wide _ _).trans (sum_shapeCast v cast_wide')
theorem sumLane_eq (v : FVec Ideal S8x128 .f32) : sumLane v = ∑ i, v i :=
  (reduceAdd_one red_lane _ _).trans (sum_shapeCast v cast_lane')

theorem ereal_sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Bce
-- ==== Proof.Cells.lean ====
/-
  Reading a buffer after a write: a whole buffer, one cell of a table, one bin's counts. And running a
  command that takes a state to a state whatever follows it, one bin after another.
-/
module

public import proofs.«01_k».proof.Proof.Sums
public import proofs.«01_k».proof.Proof.Sem

@[expose] public section

noncomputable section

namespace Cert.Bce

open Idealize.ShloMosaic

variable {F : FTy → Type}

/-! ## Windows -/

section
variable {α : Type}

theorem window_full {s : Shape} (x : s.Idx → α) (off : Fin s.rank → ℕ) (inb : ∀ a, off a + s.size a ≤ s.size a) :
    VecWindow.window x off s.size inb = x :=
  funext fun y => congrArg x (Rect.emb_unit_full inb y)

theorem put_full {s : Shape} (x w : s.Idx → α) (off : Fin s.rank → ℕ) (inb : ∀ a, off a + s.size a ≤ s.size a) :
    VecWindow.put x off s.size w = w := by
  rw [← window_full (VecWindow.put x off s.size w) off inb, VecWindow.window_put_same]

/-- Eight rows of a block. -/
theorem window_rows (x : S256x4096.Idx → α) (g : ℕ) (hg : g < 32) (i : S8x4096.Idx) :
    VecWindow.window x ![8 * g, 0] S8x4096.size (inb_rows ⟨g, hg⟩) i = x (rowsAt ⟨g, hg⟩ i) := by
  refine congrArg x (ext2 ?_ ?_)
  · show 8 * g + 1 * (i 0).val = 8 * g + (i 0).val; omega
  · show 0 + 1 * (i 1).val = (i 1).val; omega

/-- Place `b` of a row. -/
def at1 {a : ℕ} (b : Fin a) : (⟨1, ![a]⟩ : Shape).Idx := fun k => match k with | 0 => b

/-- Cell `b` of a table of ten. -/
def cell (x : S10.Idx → α) (b : Fin 10) : α := x (at1 b)
/-- Cell `b` of row `r` of the two rows of sums. -/
def cell2 (x : S2x10.Idx → α) (r : Fin 2) (b : Fin 10) : α := x (at2 r b)
/-- The one cell of a one-cell buffer. -/
def cell1 (x : S1.Idx → α) : α := x (at1 0)

theorem window_cell (x : S10.Idx → α) (b : Fin 10) (j : S1.Idx) : VecWindow.window x ![b.val] S1.size (inb_bin1 b) j = cell x b := by
  refine congrArg x (funext fun a => Fin.ext ?_)
  have h : (j 0).val < 1 := (j 0).isLt
  match a with | 0 => show b.val + 1 * (j 0).val = b.val; omega

theorem window_cell2 (x : S2x10.Idx → α) (r : Fin 2) (b : Fin 10) (j : S1x1.Idx) :
    VecWindow.window x ![r.val, b.val] S1x1.size (inb_bin2 r b) j = cell2 x r b := by
  have h0 : (j 0).val < 1 := (j 0).isLt
  have h1 : (j 1).val < 1 := (j 1).isLt
  refine congrArg x (ext2 ?_ ?_)
  · show r.val + 1 * (j 0).val = r.val; omega
  · show b.val + 1 * (j 1).val = b.val; omega

theorem window_cell1 (x : S1.Idx → α) (j : S1.Idx) : VecWindow.window x ![0] S1.size inb_one j = cell1 x := by
  refine congrArg x (funext fun a => Fin.ext ?_)
  have h : (j 0).val < 1 := (j 0).isLt
  match a with | 0 => show 0 + 1 * (j 0).val = 0; omega

theorem cell_put (x : S10.Idx → α) (b b' : Fin 10) (w : α) :
    cell (VecWindow.put x ![b.val] S1.size fun _ => w) b' = if b' = b then w else cell x b' := by
  rw [← window_cell _ b' (at1 0)]
  split
  · next h => subst h; rw [VecWindow.window_put_same]
  · next h =>
    rw [VecWindow.window_put_of_disjoint _ _ _ _ _ _ _ (0 : Fin 1) ?_, window_cell]
    show b'.val + 1 ≤ b.val ∨ b.val + 1 ≤ b'.val
    have : b'.val ≠ b.val := fun e => h (Fin.ext e)
    omega

theorem cell2_put (x : S2x10.Idx → α) (r r' : Fin 2) (b b' : Fin 10) (w : α) :
    cell2 (VecWindow.put x ![r.val, b.val] S1x1.size fun _ => w) r' b' = if r' = r ∧ b' = b then w else cell2 x r' b' := by
  rw [← window_cell2 _ r' b' (at2 0 0)]
  split
  · next h => obtain ⟨rfl, rfl⟩ := h; rw [VecWindow.window_put_same]
  · next h =>
    by_cases hr : r' = r
    · rw [VecWindow.window_put_of_disjoint _ _ _ _ _ _ _ (1 : Fin 2) ?_, window_cell2]
      show b'.val + 1 ≤ b.val ∨ b.val + 1 ≤ b'.val
      have : b'.val ≠ b.val := fun e => h ⟨hr, Fin.ext e⟩
      omega
    · rw [VecWindow.window_put_of_disjoint _ _ _ _ _ _ _ (0 : Fin 2) ?_, window_cell2]
      show r'.val + 1 ≤ r.val ∨ r.val + 1 ≤ r'.val
      have : r'.val ≠ r.val := fun e => hr (Fin.ext e)
      omega

theorem cell1_put (x : S1.Idx → α) (w : α) : cell1 (VecWindow.put x ![0] S1.size fun _ => w) = w := by
  rw [← window_cell1 _ (at1 0), VecWindow.window_put_same]

/-- The counts of bin `b`, one per sublane and lane. -/
abbrev lanes (x : S10x8x128.Idx → α) (b : Fin 10) : S1x8x128.Idx → α := VecWindow.window x ![b.val, 0, 0] S1x8x128.size (inb_bin3 b)

theorem lanes_put (x : S10x8x128.Idx → α) (b b' : Fin 10) (w : S1x8x128.Idx → α) :
    lanes (VecWindow.put x ![b.val, 0, 0] S1x8x128.size w) b' = if b' = b then w else lanes x b' := by
  unfold lanes
  split
  · next h => subst h; rw [VecWindow.window_put_same]
  · next h =>
    rw [VecWindow.window_put_of_disjoint _ _ _ _ _ _ _ (0 : Fin 3) ?_]
    show b'.val + 1 ≤ b.val ∨ b.val + 1 ≤ b'.val
    have : b'.val ≠ b.val := fun e => h (Fin.ext e)
    omega

end

theorem shapeCast_same {α : Type} {s : Shape} (x : s.Idx → α) (h : s.ShapeCasts s) : shapeCast s x h = x := by
  funext i
  refine congrArg x ?_
  apply s.rowMajor.injective
  exact Fin.ext (Shape.rowMajor_reshapeEquiv h i)

/-! ## Commands that go on -/

/-- The command `f`, followed by anything, takes `st` to `st'`. -/
def Does (f : Cmd F → Cmd F) (st st' : St F) : Prop := ∀ R k, (f k).run R st = k.run R st'

theorem Does.comp {f g : Cmd F → Cmd F} {a b c : St F} (hf : Does f a b) (hg : Does g b c) : Does (fun k => f (g k)) a c :=
  fun R k => (hf R _).trans (hg R k)

theorem each_does (f : Fin 10 → Cmd F → Cmd F) (I : ℕ → St F → Prop)
    (hf : ∀ (b : Fin 10) st, I b.val st → ∃ st', Does (f b) st st' ∧ I (b.val + 1) st') :
    ∀ n b (h : b + n = 10) st, I b st → ∃ st', Does (each f n b h) st st' ∧ I 10 st'
  | 0, b, h, st, hi => ⟨st, fun _ _ => rfl, by have : b = 10 := by omega
                                               exact this ▸ hi⟩
  | n + 1, b, h, st, hi => by
    obtain ⟨s1, d1, i1⟩ := hf ⟨b, by omega⟩ st hi
    obtain ⟨s2, d2, i2⟩ := each_does f I hf n (b + 1) (by omega) s1 i1
    exact ⟨s2, d1.comp d2, i2⟩

/-- The ten bins in order, by an invariant over the bins done. -/
theorem bins_does (f : Fin 10 → Cmd F → Cmd F) (I : ℕ → St F → Prop)
    (hf : ∀ (b : Fin 10) st, I b.val st → ∃ st', Does (f b) st st' ∧ I (b.val + 1) st') (st : St F) (h0 : I 0 st) :
    ∃ st', Does (bins f) st st' ∧ I 10 st' := each_does f I hf 10 0 rfl st h0

/-- The same, carrying a value. -/
theorem fold_does {α : Type} (f : Fin 10 → α → (α → Cmd F) → Cmd F) (I : ℕ → α → St F → Prop)
    (hf : ∀ (b : Fin 10) a st, I b.val a st → ∃ a' st', (∀ R k, (f b a k).run R st = (k a').run R st') ∧ I (b.val + 1) a' st') :
    ∀ n b (h : b + n = 10) a st, I b a st → ∃ a' st', (∀ R k, (fold f n b h a k).run R st = (k a').run R st') ∧ I 10 a' st'
  | 0, b, h, a, st, hi => ⟨a, st, fun _ _ => rfl, by have : b = 10 := by omega
                                                     exact this ▸ hi⟩
  | n + 1, b, h, a, st, hi => by
    obtain ⟨a1, s1, d1, i1⟩ := hf ⟨b, by omega⟩ a st hi
    obtain ⟨a2, s2, d2, i2⟩ := fold_does f I hf n (b + 1) (by omega) a1 s1 i1
    exact ⟨a2, s2, fun R k => (d1 R _).trans (d2 R k), i2⟩

/-! ## The buffers of a state, read and replaced -/

namespace St

def p (st : St F) : S256x4096.Idx → F .f32 := st.v .p
def t (st : St F) : S256x4096.Idx → F .f32 := st.v .t
def iacc (st : St F) : S8x4096.Idx → BitVec 32 := st.v .iacc
def vacc (st : St F) : S8x4096.Idx → F .f32 := st.v .vacc
def facc (st : St F) : S10x8x128.Idx → F .f32 := st.v .facc
def ema (st : St F) : S10.Idx → F .f32 := st.s .ema
def loss (st : St F) : S1.Idx → F .f32 := st.s .loss
def emao (st : St F) : S10.Idx → F .f32 := st.s .emao
def acc (st : St F) : S2x10.Idx → F .f32 := st.s .acc
def flag (st : St F) : S1.Idx → BitVec 32 := st.s .flag

def iaccTo (st : St F) (w : S8x4096.Idx → BitVec 32) : St F := { st with v := Function.update st.v .iacc w }
def vaccTo (st : St F) (w : S8x4096.Idx → F .f32) : St F := { st with v := Function.update st.v .vacc w }
def faccTo (st : St F) (w : S10x8x128.Idx → F .f32) : St F := { st with v := Function.update st.v .facc w }
def lossTo (st : St F) (w : S1.Idx → F .f32) : St F := { st with s := Function.update st.s .loss w }
def emaoTo (st : St F) (w : S10.Idx → F .f32) : St F := { st with s := Function.update st.s .emao w }
def accTo (st : St F) (w : S2x10.Idx → F .f32) : St F := { st with s := Function.update st.s .acc w }
def flagTo (st : St F) (w : S1.Idx → BitVec 32) : St F := { st with s := Function.update st.s .flag w }

variable (st : St F)

theorem faccTo_faccTo (w w') : (st.faccTo w).faccTo w' = st.faccTo w' := congrArg (fun x => ({ st with v := x } : St F)) (Function.update_idem ..)
theorem faccTo_same : st.faccTo st.facc = st := congrArg (fun x => ({ st with v := x } : St F)) (Function.update_eq_self ..)
theorem accTo_accTo (w w') : (st.accTo w).accTo w' = st.accTo w' := congrArg (fun x => ({ st with s := x } : St F)) (Function.update_idem ..)
theorem accTo_same : st.accTo st.acc = st := congrArg (fun x => ({ st with s := x } : St F)) (Function.update_eq_self ..)
theorem emaoTo_emaoTo (w w') : (st.emaoTo w).emaoTo w' = st.emaoTo w' := congrArg (fun x => ({ st with s := x } : St F)) (Function.update_idem ..)
theorem emaoTo_same : st.emaoTo st.emao = st := congrArg (fun x => ({ st with s := x } : St F)) (Function.update_eq_self ..)

end St

/-! ## The loads and stores of single cells -/

section
variable [FloatOps F] (R : BitVec 32 → St F → St F) (st : St F)

/-- A table with one cell replaced. -/
abbrev putCell {α : Type} (x : S10.Idx → α) (b : Fin 10) (w : α) : S10.Idx → α := VecWindow.put x ![b.val] S1.size fun _ => w
abbrev putCell2 {α : Type} (x : S2x10.Idx → α) (r : Fin 2) (b : Fin 10) (w : α) : S2x10.Idx → α :=
  VecWindow.put x ![r.val, b.val] S1x1.size fun _ => w
abbrev putCell1 {α : Type} (x : S1.Idx → α) (w : α) : S1.Idx → α := VecWindow.put x ![0] S1.size fun _ => w

theorem ldAcc_run (r : Fin 2) (b : Fin 10) (k : F .f32 → Cmd F) : (ldAcc r b k).run R st = (k (cell2 st.acc r b)).run R st :=
  congrArg (fun x => (k x).run R st) (window_cell2 st.acc r b _)
theorem stAcc_run (r : Fin 2) (b : Fin 10) (w : F .f32) (k : Cmd F) :
    (stAcc r b w k).run R st = k.run R (st.accTo (putCell2 st.acc r b w)) := rfl
theorem ldEma_run (b : Fin 10) (k : F .f32 → Cmd F) : (ldEma b k).run R st = (k (cell st.ema b)).run R st :=
  congrArg (fun x => (k x).run R st) (window_cell st.ema b _)
theorem ldOut_run (b : Fin 10) (k : F .f32 → Cmd F) : (ldOut b k).run R st = (k (cell st.emao b)).run R st :=
  congrArg (fun x => (k x).run R st) (window_cell st.emao b _)
theorem stOut_run (b : Fin 10) (w : F .f32) (k : Cmd F) : (stOut b w k).run R st = k.run R (st.emaoTo (putCell st.emao b w)) := rfl
theorem ldFlag_run (k : BitVec 32 → Cmd F) : (ldFlag k).run R st = (k (cell1 st.flag)).run R st :=
  congrArg (fun x => (k x).run R st) (window_cell1 st.flag _)
theorem stFlag_run (w : BitVec 32) (k : Cmd F) : (stFlag w k).run R st = k.run R (st.flagTo (putCell1 st.flag w)) := rfl
theorem ldLoss_run (k : F .f32 → Cmd F) : (ldLoss k).run R st = (k (cell1 st.loss)).run R st :=
  congrArg (fun x => (k x).run R st) (window_cell1 st.loss _)
theorem stLoss_run (w : F .f32) (k : Cmd F) : (stLoss w k).run R st = k.run R (st.lossTo (putCell1 st.loss w)) := rfl
theorem ldVacc_run (k : FVec F S8x4096 .f32 → Cmd F) : (ldVacc k).run R st = (k st.vacc).run R st :=
  congrArg (fun x => (k x).run R st) (window_full st.vacc _ inb_wide)
theorem ldFacc_run (b : Fin 10) (k : FVec F S1x8x128 .f32 → Cmd F) : (ldFacc b k).run R st = (k (lanes st.facc b)).run R st := rfl

theorem stVacc_run (w : FVec F S8x4096 .f32) (k : Cmd F) : (stVacc (shapeCast S8x4096 w cast_wide) k).run R st = k.run R (st.vaccTo w) := by
  have e : VecWindow.put st.vacc ![0, 0] S8x4096.size (shapeCast S8x4096 w cast_wide) = w := by
    rw [put_full _ _ _ inb_wide]
    exact shapeCast_same _ _
  exact congrArg (fun x => k.run R (st.vaccTo x)) e

end

/-! ## Sums over the first bins -/

/-- The sum of `f` over the bins before `m`. -/
def upTo {M : Type} [AddCommMonoid M] (f : Fin 10 → M) (m : ℕ) : M := ∑ b ∈ Finset.univ.filter (fun b : Fin 10 => b.val < m), f b

theorem upTo_zero {M : Type} [AddCommMonoid M] (f : Fin 10 → M) : upTo f 0 = 0 := by simp [upTo]
theorem upTo_all {M : Type} [AddCommMonoid M] (f : Fin 10 → M) : upTo f 10 = ∑ b, f b := by
  rw [upTo, Finset.filter_true_of_mem fun b _ => b.isLt]
theorem upTo_succ {M : Type} [AddCommMonoid M] (f : Fin 10 → M) (b : Fin 10) : upTo f (b.val + 1) = upTo f b.val + f b := by
  unfold upTo
  have e : Finset.univ.filter (fun k : Fin 10 => k.val < b.val + 1) = insert b (Finset.univ.filter fun k : Fin 10 => k.val < b.val) := by
    ext k; simp only [Finset.mem_filter, Finset.mem_univ, true_and, Finset.mem_insert, Fin.ext_iff]; omega
  rw [e, Finset.sum_insert (by simp), add_comm]

/-- A state that differs from `st` in nothing but what the accumulators and the results hold. -/
structure Same (st st' : St F) : Prop where
  p : st'.p = st.p
  t : st'.t = st.t
  ema : st'.ema = st.ema

end Cert.Bce
-- ==== Proof.Fast.lean ====
/-
  The fast path: a block's 32 groups of eight rows, their losses added up lane by lane, their bins
  counted in 3-bit digits of one word per lane and unpacked every seventh group.
-/
module

public import proofs.«01_k».proof.Proof.Cells

@[expose] public section

noncomputable section

namespace Cert.Bce

open Idealize.ShloMosaic

/-- A natural number as an element. -/
abbrev nat (n : ℕ) : EReal := ((n : ℝ) : EReal)

theorem nat_add (a b : ℕ) : nat (a + b) = nat a + nat b := by rw [← EReal.coe_add, ← Nat.cast_add]

theorem nat_sum {ι : Type} (s : Finset ι) (f : ι → ℕ) : ∑ i ∈ s, nat (f i) = nat (∑ i ∈ s, f i) := by
  rw [ereal_sum_coe, ← Nat.cast_sum]

/-- The constants are the ones that the names say. -/
def Consts.Exact (c : Consts Ideal) : Prop :=
  c.invLn2 = (((Real.log 2)⁻¹ : ℝ) : EReal) ∧ c.clamp2 = ((-(100 * (Real.log 2)⁻¹) : ℝ) : EReal) ∧ c.ln2 = ((Real.log 2 : ℝ) : EReal)

/-- The loss of an element in binary logarithms, its sign left out. -/
def loss2 (p t : EReal) : EReal := ((-(raw p t) * (Real.log 2)⁻¹ : ℝ) : EReal)

theorem bce2_apply {c : Consts Ideal} (hc : c.Exact) (p t : FVec Ideal S8x4096 .f32) (i : S8x4096.Idx) (h : Ok (p i) (t i)) :
    bce2 c p t i = loss2 (p i) (t i) := by
  rw [loss2, ← raw_fast h]
  show t i * (max (Ideal.log (p i) * c.invLn2) c.clamp2 - max (Ideal.log (Ideal.ofBits .f32 0x3F800000#32 - p i) * c.invLn2) c.clamp2)
    + max (Ideal.log (Ideal.ofBits .f32 0x3F800000#32 - p i) * c.invLn2) c.clamp2 = _
  rw [hc.1, hc.2.1, lit_one]

theorem digit_apply (p t : FVec Ideal S8x4096 .f32) (i : S8x4096.Idx) (h : Ok (p i) (t i)) :
    digit p t i = BitVec.ofNat 32 (1 <<< (3 * (bin (p i) (t i)).val)) := by
  rw [← one_shli .vector, ← fptosi_bin h, ← lit_ten]
  rfl

/-! ## One group -/

/-- The rows of group `g` of a block. -/
abbrev rows (x : FVec Ideal S256x4096 .f32) (g : ℕ) (hg : g < 32) : FVec Ideal S8x4096 .f32 :=
  VecWindow.window x ![8 * g, 0] S8x4096.size (inb_rows ⟨g, hg⟩)

/-- The loss lanes after a group. -/
def vaccAfter (c : Consts Ideal) (st : St Ideal) (g : ℕ) (hg : g < 32) : FVec Ideal S8x4096 .f32 :=
  addf (F := Ideal) st.vacc (bce2 c (rows st.p g hg) (rows st.t g hg))

/-- The loss lanes as the body stores them. -/
theorem vacc_stored (c : Consts Ideal) (st : St Ideal) (g : ℕ) (hg : g < 32) :
    VecWindow.put st.vacc ![0, 0] S8x4096.size (shapeCast S8x4096 (addf (F := Ideal) (VecWindow.window st.vacc ![0, 0] S8x4096.size inb_wide)
      (bce2 c (rows st.p g hg) (rows st.t g hg))) cast_wide) = vaccAfter c st g hg := by
  rw [put_full _ _ _ inb_wide, window_full]
  exact shapeCast_same _ _

theorem group_first (c : Consts Ideal) (g : ℕ) (hg : g < 32) (st : St Ideal) :
    Does (group c true g hg) st ((st.vaccTo (vaccAfter c st g hg)).iaccTo (digit (rows st.p g hg) (rows st.t g hg))) := by
  intro R k
  rw [← vacc_stored]
  have e2 : VecWindow.put st.iacc ![0, 0] S8x4096.size (shapeCast S8x4096 (digit (rows st.p g hg) (rows st.t g hg)) cast_wide)
      = digit (rows st.p g hg) (rows st.t g hg) := by rw [put_full _ _ _ inb_wide, shapeCast_same]
  rw [← e2]
  rfl

theorem group_next (c : Consts Ideal) (g : ℕ) (hg : g < 32) (st : St Ideal) :
    Does (group c false g hg) st ((st.vaccTo (vaccAfter c st g hg)).iaccTo (addi st.iacc (digit (rows st.p g hg) (rows st.t g hg)))) := by
  intro R k
  rw [← vacc_stored]
  have e2 : VecWindow.put st.iacc ![0, 0] S8x4096.size (shapeCast S8x4096
      (addi (VecWindow.window st.iacc ![0, 0] S8x4096.size inb_wide) (digit (rows st.p g hg) (rows st.t g hg))) cast_wide)
      = addi st.iacc (digit (rows st.p g hg) (rows st.t g hg)) := by
    rw [put_full _ _ _ inb_wide, window_full]
    exact shapeCast_same _ _
  rw [← e2]
  rfl

/-! ## What the groups of a block hold -/

/-- The loss at place `i` of row group `g`. -/
def lossAt (P T : FVec Ideal S256x4096 .f32) (g : ℕ) (i : S8x4096.Idx) : EReal :=
  if h : g < 32 then loss2 (P (rowsAt ⟨g, h⟩ i)) (T (rowsAt ⟨g, h⟩ i)) else 0
/-- The bin at place `i` of row group `g`. -/
def binAt (P T : FVec Ideal S256x4096 .f32) (g : ℕ) (i : S8x4096.Idx) : Fin 10 :=
  if h : g < 32 then bin (P (rowsAt ⟨g, h⟩ i)) (T (rowsAt ⟨g, h⟩ i)) else 0

section
variable {c : Consts Ideal} {P T : FVec Ideal S256x4096 .f32}

theorem bce2_rows (hc : c.Exact) (h : ∀ i, Ok (P i) (T i)) (g : ℕ) (hg : g < 32) (i : S8x4096.Idx) :
    bce2 c (rows P g hg) (rows T g hg) i = lossAt P T g i := by
  have e (x : FVec Ideal S256x4096 .f32) : rows x g hg i = x (rowsAt ⟨g, hg⟩ i) := window_rows x g hg i
  rw [bce2_apply hc _ _ _ (by rw [e, e]; exact h _), e, e, lossAt, dif_pos hg]

theorem digit_rows (h : ∀ i, Ok (P i) (T i)) (g : ℕ) (hg : g < 32) (i : S8x4096.Idx) :
    digit (rows P g hg) (rows T g hg) i = BitVec.ofNat 32 (1 <<< (3 * (binAt P T g i).val)) := by
  have e (x : FVec Ideal S256x4096 .f32) : rows x g hg i = x (rowsAt ⟨g, hg⟩ i) := window_rows x g hg i
  rw [digit_apply _ _ _ (by rw [e, e]; exact h _), e, e, binAt, dif_pos hg]

/-- The states the fast path of one block goes through: the block's rows and the tables stay, and of the loss lanes the total is told. -/
structure Mid (P T : FVec Ideal S256x4096 .f32) (st st' : St Ideal) (g : ℕ) : Prop where
  s : st'.s = st.s
  p : st'.p = P
  t : st'.t = T
  vacc : ∑ i, st'.vacc i = ∑ i, st.vacc i + ∑ k ∈ Finset.range g, ∑ i, lossAt P T k i

/-- How often bin `b` occurs at place `i` among the `n` row groups from `g`. -/
def times (P T : FVec Ideal S256x4096 .f32) (g n : ℕ) (b : Fin 10) (i : S8x4096.Idx) : ℕ :=
  ∑ k ∈ Finset.range n, if binAt P T (g + k) i = b then 1 else 0

theorem times_succ (g n : ℕ) (b : Fin 10) (i : S8x4096.Idx) :
    times P T g (n + 1) b i = times P T g n b i + if binAt P T (g + n) i = b then 1 else 0 := Finset.sum_range_succ _ _

theorem mid_vacc (hc : c.Exact) (h : ∀ i, Ok (P i) (T i)) {st st1 : St Ideal} {g : ℕ} (hg : g < 32) (hm : Mid P T st st1 g)
    (w : IVec S8x4096 32) : Mid P T st ((st1.vaccTo (vaccAfter c st1 g hg)).iaccTo w) (g + 1) where
  s := hm.s
  p := hm.p
  t := hm.t
  vacc := by
    show ∑ i, vaccAfter c st1 g hg i = _
    rw [Finset.sum_range_succ, ← add_assoc, ← hm.vacc, ← Finset.sum_add_distrib]
    refine Finset.sum_congr rfl fun i _ => ?_
    rw [vaccAfter, hm.p, hm.t, ← bce2_rows hc h g hg i]
    rfl

/-- After the run's first group and `n` more: each word packs its counts. -/
theorem groups_does (hc : c.Exact) (h : ∀ i, Ok (P i) (T i)) (st : St Ideal) (g0 : ℕ) :
    ∀ n m (hn : g0 + (m + 1) + n ≤ 32), m + 1 + n ≤ 7 → ∀ st1, Mid P T st st1 (g0 + (m + 1)) →
      (∀ i, Packed (m + 1) (fun b => times P T g0 (m + 1) b i) (st1.iacc i)) →
      ∃ st', Does (groups c n (g0 + (m + 1)) hn) st1 st' ∧ Mid P T st st' (g0 + (m + 1) + n) ∧ st'.facc = st1.facc
        ∧ ∀ i, Packed (m + 1 + n) (fun b => times P T g0 (m + 1 + n) b i) (st'.iacc i)
  | 0, m, hn, _, st1, hm, hp => ⟨st1, fun _ _ => rfl, hm, rfl, hp⟩
  | n + 1, m, hn, h7, st1, hm, hp => by
    have hg : g0 + (m + 1) < 32 := by omega
    have d := group_next c (g0 + (m + 1)) hg st1
    obtain ⟨st', d', m', f', p'⟩ := groups_does hc h st g0 n (m + 1) (by omega) (by omega) _
        (mid_vacc hc h hg hm (addi st1.iacc (digit (rows st1.p (g0 + (m + 1)) hg) (rows st1.t (g0 + (m + 1)) hg)))) (fun i => by
      have := packed_add (hp i) (by omega) (binAt P T (g0 + (m + 1)) i)
      simp only [← times_succ] at this
      rw [← digit_rows h _ hg] at this
      rw [hm.p, hm.t]
      exact this)
    refine ⟨st', fun R k => (d R _).trans (d' R k), ?_, f', ?_⟩
    · have e : g0 + (m + 1 + 1) + n = g0 + (m + 1) + (n + 1) := by omega
      exact e ▸ m'
    · have e : m + 1 + 1 + n = m + 1 + (n + 1) := by omega
      exact e ▸ p'

/-! ## Unpacking -/

theorem chunk_apply {n : ℕ} {cnt : Fin 10 → S8x4096.Idx → ℕ} {v : IVec S8x4096 32} (h : ∀ i, Packed n (fun b => cnt b i) (v i))
    (b : Fin 10) (j : ℕ) (hj : j < 32) (i : S8x128.Idx) : chunk v b.val j hj i = BitVec.ofNat 32 (cnt b (lanesAt ⟨j, hj⟩ i)) := by
  rw [← digit_of_packed .vector (h _) b]
  refine congrArg (fun z => IntOp.andi (IntOp.shrsi .vector (v z) (BitVec.ofNat 32 (3 * b.val))) 7#32) (ext2 ?_ ?_)
  · show 0 + (i 0).val = (i 0).val; omega
  · rfl

/-- A lane's counts over the chunks. -/
def perLane (cnt : S8x4096.Idx → ℕ) (i : S8x128.Idx) (j : ℕ) : ℕ := if h : j < 32 then cnt (lanesAt ⟨j, h⟩ i) else 0

theorem chunks_apply {n : ℕ} {cnt : Fin 10 → S8x4096.Idx → ℕ} {v : IVec S8x4096 32} (h : ∀ i, Packed n (fun b => cnt b i) (v i))
    (b : Fin 10) (i : S8x128.Idx) : ∀ (j : ℕ) (hj : j < 32), chunks v b.val j hj i = BitVec.ofNat 32 (∑ k ∈ Finset.range (j + 1), perLane (cnt b) i k)
  | 0, hj => by
    show chunk v b.val 0 hj i = _
    rw [chunk_apply h b 0 hj i, Finset.sum_range_one, perLane, dif_pos hj]
  | j + 1, hj => by
    show IntOp.addi (chunks v b.val j _ i) (chunk v b.val (j + 1) hj i) = _
    rw [chunks_apply h b i j, chunk_apply h b (j + 1) hj i, Finset.sum_range_succ _ (j + 1), perLane, dif_pos hj, BitVec.ofNat_add]
    rfl

theorem sitofp_small (N : ℕ) (h : N < 2 ^ 31) : (((BitVec.ofNat 32 N).toInt : ℝ) : EReal) = nat N := by
  have : (BitVec.ofNat 32 N).toInt = N := by
    rw [BitVec.toInt_eq_toNat_of_lt (by rw [BitVec.toNat_ofNat]; omega), BitVec.toNat_ofNat]; congr 1; omega
  rw [this]; rfl

/-- The digits of a bin, over all lanes. -/
theorem sum_chunks {n : ℕ} {cnt : Fin 10 → S8x4096.Idx → ℕ} {v : IVec S8x4096 32} (h : ∀ i, Packed n (fun b => cnt b i) (v i)) (hn : n ≤ 7)
    (b : Fin 10) : ∑ i, (sitofp .f32 (chunks v b.val 31 (by decide)) : FVec Ideal S8x128 .f32) i = nat (∑ i, cnt b i) := by
  have e : ∀ i, (sitofp .f32 (chunks v b.val 31 (by decide)) : FVec Ideal S8x128 .f32) i = nat (∑ j : Fin 32, cnt b (lanesAt j i)) := fun i => by
    show (((chunks v b.val 31 _ i).toInt : ℝ) : EReal) = _
    have hs : ∑ k ∈ Finset.range (31 + 1), perLane (cnt b) i k = ∑ j : Fin 32, cnt b (lanesAt j i) := by
      rw [Finset.sum_range]
      exact Finset.sum_congr rfl fun j _ => by rw [perLane, dif_pos j.isLt]
    have hle : ∑ j : Fin 32, cnt b (lanesAt j i) ≤ 32 * 7 := by
      refine (Finset.sum_le_card_nsmul _ _ 7 fun j _ => ((h _).2 b).2.trans hn).trans ?_
      simp
    rw [chunks_apply h b i 31, hs, sitofp_small _ (by omega)]
  rw [Finset.sum_congr rfl fun i _ => e i, nat_sum, sum_lanes (cnt b), Finset.sum_comm]

/-- The total of a bin's counts over the lanes. -/
def total (x : S10x8x128.Idx → EReal) (b : Fin 10) : EReal := ∑ i, lanes x b i

/-- What is stored for bin `b`: its counts and the digits. -/
def laneAfter (v : IVec S8x4096 32) (b : Fin 10) (a : FVec Ideal S1x8x128 .f32) : FVec Ideal S1x8x128 .f32 :=
  shapeCast S1x8x128 (addf (F := Ideal) (shapeCast S8x128 a cast_lane) (sitofp .f32 (chunks v b.val 31 (by decide)))) cast_lane'

theorem sum_laneAfter {n : ℕ} {cnt : Fin 10 → S8x4096.Idx → ℕ} {v : IVec S8x4096 32} (h : ∀ i, Packed n (fun b => cnt b i) (v i)) (hn : n ≤ 7)
    (b : Fin 10) (a : FVec Ideal S1x8x128 .f32) : ∑ i, laneAfter v b a i = ∑ i, a i + nat (∑ i, cnt b i) := by
  rw [laneAfter, sum_shapeCast, ← sum_chunks h hn b, ← sum_shapeCast (t := S8x128) a cast_lane, ← Finset.sum_add_distrib]
  rfl

/-- Unpacking, the words given. -/
def unpack (v : IVec S8x4096 32) : Cmd Ideal → Cmd Ideal :=
  bins fun b k => ldFacc b fun a => ldFacc b fun _ => stFacc b (laneAfter v b a) k

theorem flush_eq (k : Cmd Ideal) (R : BitVec 32 → St Ideal → St Ideal) (st : St Ideal) : (flush k).run R st = (unpack st.iacc k).run R st := by
  have e : VecWindow.window st.iacc ![0, 0] S8x4096.size inb_wide = st.iacc := window_full _ _ _
  show (unpack (VecWindow.window st.iacc ![0, 0] S8x4096.size inb_wide) k).run R st = _
  rw [e]

theorem flush_does {n : ℕ} {cnt : Fin 10 → S8x4096.Idx → ℕ} (st : St Ideal) (h : ∀ i, Packed n (fun b => cnt b i) (st.iacc i)) (hn : n ≤ 7) :
    ∃ w, Does flush st (st.faccTo w) ∧ ∀ b, total w b = total st.facc b + nat (∑ i, cnt b i) := by
  obtain ⟨_, d, w, rfl, hw⟩ := bins_does (F := Ideal) (fun b k => ldFacc b fun a => ldFacc b fun _ => stFacc b (laneAfter st.iacc b a) k)
    (fun m st' => ∃ w, st' = st.faccTo w ∧ ∀ b : Fin 10, total w b = total st.facc b + if b.val < m then nat (∑ i, cnt b i) else 0)
    (fun b st1 => by
      rintro ⟨w, rfl, hw⟩
      refine ⟨(st.faccTo w).faccTo (VecWindow.put w ![b.val, 0, 0] S1x8x128.size (laneAfter st.iacc b (lanes w b))), fun R k => rfl, _,
        St.faccTo_faccTo _ _ _, fun b' => ?_⟩
      have h1 := hw b'
      rw [total, lanes_put]
      split
      · next e =>
        subst e
        rw [if_neg (by omega), add_zero] at h1
        rw [if_pos (by omega), sum_laneAfter h hn, ← h1]
        rfl
      · next e =>
        have hne : b'.val ≠ b.val := fun he => e (Fin.ext he)
        refine h1.trans ?_
        congr 1
        by_cases hb : b'.val < b.val
        · rw [if_pos hb, if_pos (by omega)]
        · rw [if_neg hb, if_neg (by omega)]) st
    ⟨st.facc, (St.faccTo_same _).symm, fun b => by rw [if_neg (by omega), add_zero]⟩
  exact ⟨w, fun R k => (flush_eq k R st).trans (d R k), fun b => by rw [hw b, if_pos b.isLt]⟩

/-! ## A run of packed groups -/

/-- How often bin `b` occurs in the first `g` row groups. -/
def count (P T : FVec Ideal S256x4096 .f32) (g : ℕ) (b : Fin 10) : ℕ := ∑ k ∈ Finset.range g, ∑ i, if binAt P T k i = b then 1 else 0

theorem count_add (g n : ℕ) (b : Fin 10) : count P T (g + n) b = count P T g b + ∑ i, times P T g n b i := by
  unfold count times
  rw [Finset.sum_range_add, Finset.sum_comm (s := Finset.univ)]

/-- The same, with the totals of the counts told. -/
structure Full (P T : FVec Ideal S256x4096 .f32) (st st' : St Ideal) (g : ℕ) : Prop extends Mid P T st st' g where
  facc : ∀ b, total st'.facc b = total st.facc b + nat (count P T g b)

theorem packed_does (hc : c.Exact) (h : ∀ i, Ok (P i) (T i)) (st st1 : St Ideal) (g n : ℕ) (hn : g + (n + 1) ≤ 32) (h7 : n + 1 ≤ 7)
    (hf : Full P T st st1 g) : ∃ st', Does (packed c g n hn) st1 st' ∧ Full P T st st' (g + (n + 1)) := by
  have hg : g < 32 := by omega
  have d := group_first c g hg st1
  obtain ⟨s2, d2, m2, f2, p2⟩ := groups_does hc h st g n 0 (by omega) (by omega) _
    (mid_vacc hc h hg hf.toMid (digit (rows st1.p g hg) (rows st1.t g hg))) (fun i => by
      have := packed_digit (binAt P T g i)
      rw [← digit_rows h _ hg] at this
      simp only [times, zero_add, Finset.sum_range_one, add_zero]
      rw [hf.p, hf.t]
      exact this)
  obtain ⟨w, d3, w3⟩ := flush_does s2 p2 (by omega)
  have e1 : g + (0 + 1) + n = g + (n + 1) := by omega
  have e2 : 0 + 1 + n = n + 1 := by omega
  rw [e1] at m2
  rw [e2] at w3
  refine ⟨s2.faccTo w, fun R k => (d R _).trans ((d2 R _).trans (d3 R k)), ⟨m2.s, m2.p, m2.t, m2.vacc⟩, fun b => ?_⟩
  show total w b = _
  rw [w3, f2, count_add, nat_add, ← add_assoc, ← hf.facc]
  rfl

/-- The whole fast path of one block. -/
theorem fast_does (hc : c.Exact) (st : St Ideal) (h : ∀ i, Ok (st.p i) (st.t i)) :
    ∃ st', Does (fast c) st st' ∧ Full st.p st.t st st' 32 := by
  have h0 : Full st.p st.t st st 0 := ⟨⟨rfl, rfl, rfl, by simp⟩, fun b => by simp [count]⟩
  obtain ⟨s1, d1, f1⟩ := packed_does hc h st _ 0 6 (by decide) (by decide) h0
  obtain ⟨s2, d2, f2⟩ := packed_does hc h st _ 7 6 (by decide) (by decide) f1
  obtain ⟨s3, d3, f3⟩ := packed_does hc h st _ 14 6 (by decide) (by decide) f2
  obtain ⟨s4, d4, f4⟩ := packed_does hc h st _ 21 6 (by decide) (by decide) f3
  obtain ⟨s5, d5, f5⟩ := packed_does hc h st _ 28 3 (by decide) (by decide) f4
  exact ⟨s5, fun R k => (d1 R _).trans ((d2 R _).trans ((d3 R _).trans ((d4 R _).trans (d5 R k)))), f5⟩

/-! ## The totals over the block -/

/-- The elements of a block in bin `b`. -/
def hits (P T : FVec Ideal S256x4096 .f32) (b : Fin 10) : ℕ := ∑ i, if bin (P i) (T i) = b then 1 else 0

theorem count_all (b : Fin 10) : count P T 32 b = hits P T b := by
  rw [count, hits, sum_rows, Finset.sum_range]
  exact Finset.sum_congr rfl fun g _ => Finset.sum_congr rfl fun i _ => by rw [binAt, dif_pos g.isLt]

theorem lossAt_all : ∑ k ∈ Finset.range 32, ∑ i, lossAt P T k i = ∑ i, loss2 (P i) (T i) := by
  rw [sum_rows, Finset.sum_range]
  exact Finset.sum_congr rfl fun g _ => Finset.sum_congr rfl fun i _ => by rw [lossAt, dif_pos g.isLt]

end

end Cert.Bce
-- ==== Proof.Slow.lean ====
/-
  The prologue of the first step and the general path of one block: per bin a count and a sum of losses.
-/
module

public import proofs.«01_k».proof.Proof.Fast

@[expose] public section

noncomputable section

namespace Cert.Bce

open Idealize.ShloMosaic

/-! ## The general path -/

/-- The losses of a block's elements in bin `b`. -/
def lossIn (P T : FVec Ideal S256x4096 .f32) (b : Fin 10) : ℝ := ∑ i, if bin (P i) (T i) = b then raw (P i) (T i) else 0

section
variable {P T : FVec Ideal S256x4096 .f32}

/-- The mask of bin `b`. -/
def inBin (P T : FVec Ideal S256x4096 .f32) (b : Fin 10) : IVec S256x4096 1 :=
  cmpf (F := Ideal) .oeq (binBlock P T) (broadcast S256x4096 (lit (binLit b)))

theorem inBin_apply (b : Fin 10) (i : S256x4096.Idx) (h : Ok (P i) (T i)) : inBin P T b i = if bin (P i) (T i) = b then 1#1 else 0#1 := by
  rw [← cmp_bin h b, ← lit_bin b, ← lit_ten, ← lit_nine]
  rfl

/-- What bin `b` adds to its count. -/
def addCount (P T : FVec Ideal S256x4096 .f32) (b : Fin 10) : EReal :=
  sumBlock (select (inBin P T b) (broadcast S256x4096 (lit (F := Ideal) 0x3F800000#32)) (broadcast S256x4096 (lit (F := Ideal) 0x00000000#32)))
/-- What bin `b` adds to its losses. -/
def addLoss (P T : FVec Ideal S256x4096 .f32) (b : Fin 10) : EReal :=
  sumBlock (select (inBin P T b) (bceBlock P T) (broadcast S256x4096 (lit (F := Ideal) 0x00000000#32)))

theorem select_bit {α : Type} (c : Prop) [Decidable c] (x y : α) : (if (if c then 1#1 else 0#1) = 1#1 then x else y) = if c then x else y := by
  split <;> simp [*]

theorem addCount_eq (h : ∀ i, Ok (P i) (T i)) (b : Fin 10) : addCount P T b = nat (hits P T b) := by
  rw [addCount, sumBlock_eq, hits, ← nat_sum]
  refine Finset.sum_congr rfl fun i _ => ?_
  show (if inBin P T b i = 1#1 then Ideal.ofBits .f32 0x3F800000#32 else Ideal.ofBits .f32 0x00000000#32) = _
  rw [inBin_apply b i (h i), select_bit, lit_one, lit_zero]
  split <;> simp [nat]

theorem bceBlock_apply (i : S256x4096.Idx) (h : Ok (P i) (T i)) : bceBlock P T i = ((raw (P i) (T i) : ℝ) : EReal) := by
  rw [← raw_general h, ← lit_zero, ← lit_clamp]
  rfl

theorem addLoss_eq (h : ∀ i, Ok (P i) (T i)) (b : Fin 10) : addLoss P T b = ((lossIn P T b : ℝ) : EReal) := by
  rw [addLoss, sumBlock_eq, lossIn, ← ereal_sum_coe]
  refine Finset.sum_congr rfl fun i _ => ?_
  show (if inBin P T b i = 1#1 then bceBlock P T i else Ideal.ofBits .f32 0x00000000#32) = _
  rw [inBin_apply b i (h i), select_bit, lit_zero, bceBlock_apply i (h i)]
  split <;> rfl

end

/-- Bin by bin, `x` is added to the row of counts and `y` to the row of losses. -/
def accumulate (x y : Fin 10 → EReal) : Cmd Ideal → Cmd Ideal :=
  bins fun b k => ldAcc 0 b fun a => ldAcc 0 b fun _ => stAcc 0 b (Scalar.addf (F := Ideal) (φ := .f32) a (x b)) <|
    ldAcc 1 b fun a => ldAcc 1 b fun _ => stAcc 1 b (Scalar.addf (F := Ideal) (φ := .f32) a (y b)) k

/-- Row `r` of two rows. -/
def pick (x y : Fin 10 → EReal) (r : Fin 2) : Fin 10 → EReal := match r with | 0 => x | 1 => y

theorem cell2_both (w : S2x10.Idx → EReal) (b b' : Fin 10) (x y : EReal) (r : Fin 2) :
    cell2 (putCell2 (putCell2 w 0 b x) 1 b y) r b' = if b' = b then (match r with | 0 => x | 1 => y) else cell2 w r b' := by
  simp only [cell2_put]
  by_cases e : b' = b
  · subst e
    match r with
    | 0 => simp
    | 1 => simp
  · rw [if_neg (fun h => e h.2), if_neg (fun h => e h.2), if_neg e]

theorem bin_does (x y : EReal) (b : Fin 10) (st : St Ideal) :
    Does (fun k => ldAcc 0 b fun a => ldAcc 0 b fun _ => stAcc 0 b (Scalar.addf (F := Ideal) (φ := .f32) a x) <|
      ldAcc 1 b fun a => ldAcc 1 b fun _ => stAcc 1 b (Scalar.addf (F := Ideal) (φ := .f32) a y) k) st
      (st.accTo (putCell2 (putCell2 st.acc 0 b (cell2 st.acc 0 b + x)) 1 b (cell2 st.acc 1 b + y))) := by
  intro R k
  have e : cell2 (putCell2 st.acc 0 b (cell2 st.acc 0 b + x)) 1 b = cell2 st.acc 1 b := by
    rw [cell2_put, if_neg (fun h => absurd h.1 (by decide))]
  rw [ldAcc_run, ldAcc_run, stAcc_run, ldAcc_run, ldAcc_run, stAcc_run, St.accTo_accTo, ← e]
  rfl

theorem accumulate_does (x y : Fin 10 → EReal) (st : St Ideal) :
    ∃ w, Does (accumulate x y) st (st.accTo w) ∧ ∀ r b, cell2 w r b = cell2 st.acc r b + pick x y r b := by
  obtain ⟨s', d, w, hs, hw⟩ := bins_does (F := Ideal) _
    (fun m st' => ∃ w, st' = st.accTo w ∧ ∀ r, ∀ b : Fin 10, cell2 w r b = if b.val < m then cell2 st.acc r b + pick x y r b else cell2 st.acc r b)
    (fun b st1 => by
      rintro ⟨w, rfl, hw⟩
      refine ⟨_, bin_does (x b) (y b) b (st.accTo w), _, St.accTo_accTo _ _ _, fun r b' => ?_⟩
      have h1 := hw r b'
      rw [cell2_both]
      by_cases e : b' = b
      · subst e
        rw [if_neg (by omega)] at h1
        rw [if_pos rfl, if_pos (by omega), ← h1]
        match r with
        | 0 => rfl
        | 1 => rfl
      · have hne : b'.val ≠ b.val := fun he => e (Fin.ext he)
        rw [if_neg e]
        refine h1.trans ?_
        by_cases hb : b'.val < b.val
        · rw [if_pos hb, if_pos (by omega)]
        · rw [if_neg hb, if_neg (by omega)]) st
    ⟨st.acc, (St.accTo_same _).symm, fun r b => by rw [if_neg (by omega)]⟩
  rw [hs] at d
  exact ⟨w, d, fun r b => by rw [hw r b, if_pos b.isLt]⟩

theorem general_eq (k : Cmd Ideal) (R : BitVec 32 → St Ideal → St Ideal) (st : St Ideal) :
    (general k).run R st = (accumulate (addCount st.p st.t) (addLoss st.p st.t) k).run R st := by
  have e (x : S256x4096.Idx → EReal) : VecWindow.window x ![0, 0] S256x4096.size inb_block = x := window_full _ _ _
  show (accumulate (addCount (VecWindow.window st.p ![0, 0] S256x4096.size inb_block) (VecWindow.window st.t ![0, 0] S256x4096.size inb_block))
    (addLoss (VecWindow.window st.p ![0, 0] S256x4096.size inb_block) (VecWindow.window st.t ![0, 0] S256x4096.size inb_block)) k).run R st = _
  rw [e, e]

theorem general_does (st : St Ideal) (h : ∀ i, Ok (st.p i) (st.t i)) :
    ∃ w, Does general st (st.accTo w) ∧ (∀ b, cell2 w 0 b = cell2 st.acc 0 b + nat (hits st.p st.t b))
      ∧ ∀ b, cell2 w 1 b = cell2 st.acc 1 b + ((lossIn st.p st.t b : ℝ) : EReal) := by
  obtain ⟨w, d, hw⟩ := accumulate_does (addCount st.p st.t) (addLoss st.p st.t) st
  refine ⟨w, fun R k => (general_eq k R st).trans (d R k), fun b => ?_, fun b => ?_⟩
  · rw [hw, ← addCount_eq h]; rfl
  · rw [hw, ← addLoss_eq h]; rfl

/-! ## The prologue -/

/-- Every entry of the table is one. -/
def AllOne (E : S10.Idx → EReal) : Prop := ∀ b : Fin 10, cell E b = 1

open Classical in
/-- The flag that a table sets. -/
def flagOf (E : S10.Idx → EReal) : BitVec 32 := if AllOne E then 1#32 else 0#32

/-- The state after the prologue. -/
structure Cleared (st st' : St Ideal) : Prop where
  same : Same st st'
  flag : cell1 st'.flag = flagOf st.ema
  acc : ∀ r b, cell2 st'.acc r b = 0
  vacc : ∀ i, st'.vacc i = 0
  facc : ∀ i, st'.facc i = 0

/-- The flag over the first bins. -/
theorem ones_succ (E : S10.Idx → EReal) (b : Fin 10) :
    (∀ k : Fin 10, k.val < b.val + 1 → cell E k = 1) ↔ (cell E b = 1 ∧ ∀ k : Fin 10, k.val < b.val → cell E k = 1) :=
  ⟨fun h => ⟨h b (by omega), fun k hk => h k (by omega)⟩, fun h k hk => by
    by_cases e : k = b
    · rw [e]; exact h.1
    · exact h.2 k (by have : k.val ≠ b.val := fun he => e (Fin.ext he)
                      omega)⟩

/-- The fold that computes the flag. -/
def flagFold (k : BitVec 32 → Cmd Ideal) : Cmd Ideal :=
  fold (fun b (ones : BitVec 32) k => ldEma b fun x =>
      k (Scalar.select (Scalar.cmpf (F := Ideal) (φ := .f32) .oeq x (lit 0x3F800000#32)) ones 0#32)) 10 0 rfl 1#32 k

open Classical in
theorem flagFold_does (st : St Ideal) (R : BitVec 32 → St Ideal → St Ideal) (k : BitVec 32 → Cmd Ideal) :
    (flagFold k).run R st = (k (flagOf st.ema)).run R st := by
  obtain ⟨ones, s', d, hs, h1⟩ := fold_does (F := Ideal) (fun b (ones : BitVec 32) k => ldEma b fun x =>
      k (Scalar.select (Scalar.cmpf (F := Ideal) (φ := .f32) .oeq x (lit 0x3F800000#32)) ones 0#32))
    (fun m a st' => st' = st ∧ a = if ∀ b : Fin 10, b.val < m → cell st.ema b = 1 then 1#32 else 0#32)
    (fun b a st1 => by
      rintro ⟨hs, ha⟩
      refine ⟨_, st1, fun R k => ldEma_run R st1 b _, hs, ?_⟩
      rw [hs, ha]
      show (if Ideal.cmp .oeq (cell st.ema b) (Ideal.ofBits .f32 0x3F800000#32) = 1#1 then _ else _) = _
      simp only [ones_succ, Ideal.cmp, lit_one, EReal.coe_one]
      by_cases e : cell st.ema b = 1 <;> simp [e]) 10 0 rfl 1#32 st ⟨rfl, by simp⟩
  have e1 : ones = flagOf st.ema := by
    rw [h1, flagOf]
    simp only [AllOne, Fin.is_lt, forall_const]
    congr
  rw [hs, e1] at d
  exact d R k

/-- Bin by bin, the rows of sums are cleared. -/
def clear : Cmd Ideal → Cmd Ideal :=
  bins fun b k => ldAcc 0 b fun _ => stAcc 0 b (lit 0x00000000#32) <| ldAcc 1 b fun _ => stAcc 1 b (lit 0x00000000#32) k

theorem clear_does (st : St Ideal) : ∃ w, Does clear st (st.accTo w) ∧ ∀ r b, cell2 w r b = 0 := by
  obtain ⟨s', d, w, hs, hw⟩ := bins_does (F := Ideal) (fun b k => ldAcc 0 b fun _ => stAcc 0 b (lit 0x00000000#32) <|
      ldAcc 1 b fun _ => stAcc 1 b (lit 0x00000000#32) k)
    (fun m st' => ∃ w, st' = st.accTo w ∧ ∀ r, ∀ b : Fin 10, b.val < m → cell2 w r b = 0)
    (fun b st1 => by
      rintro ⟨w, rfl, hw⟩
      refine ⟨st.accTo (putCell2 (putCell2 w 0 b (lit (F := Ideal) 0x00000000#32)) 1 b (lit (F := Ideal) 0x00000000#32)), fun R k => ?_, _, rfl, fun r b' hb => ?_⟩
      · rw [ldAcc_run, stAcc_run, ldAcc_run, stAcc_run, St.accTo_accTo, St.accTo_accTo]; rfl
      have hz : (lit (F := Ideal) 0x00000000#32) = 0 := lit_zero
      rw [cell2_both, hz]
      by_cases e : b' = b
      · rw [if_pos e]
        match r with
        | 0 => rfl
        | 1 => rfl
      · have hne : b'.val ≠ b.val := fun he => e (Fin.ext he)
        rw [if_neg e]
        exact hw r b' (by omega)) st
    ⟨st.acc, (St.accTo_same st).symm, fun r b h => absurd h (by omega)⟩
  rw [hs] at d
  exact ⟨w, d, fun r b => hw r b b.isLt⟩

theorem prologue_does (st : St Ideal) : ∃ st', Does prologue st st' ∧ Cleared st st' := by
  obtain ⟨w, d2, hw⟩ := clear_does (st.flagTo (putCell1 st.flag (flagOf st.ema)))
  refine ⟨(((st.flagTo (putCell1 st.flag (flagOf st.ema))).accTo w).vaccTo (broadcast S8x4096 (lit (F := Ideal) 0x00000000#32))).faccTo
    (broadcast S10x8x128 (lit (F := Ideal) 0x00000000#32)), fun R k => ?_, ⟨rfl, rfl, rfl⟩, ?_, hw, fun i => lit_zero, fun i => lit_zero⟩
  · refine (flagFold_does st R _).trans ?_
    rw [ldFlag_run, stFlag_run]
    refine (d2 R _).trans ?_
    rw [ldVacc_run, stVacc_run]
    have e3 (x : S10x8x128.Idx → EReal) : VecWindow.put x ![0, 0, 0] S10x8x128.size (shapeCast S10x8x128 (broadcast S10x8x128 (lit (F := Ideal) 0x00000000#32)) cast_facc)
        = broadcast S10x8x128 (lit (F := Ideal) 0x00000000#32) := by
      rw [put_full _ _ _ inb_facc]
      exact shapeCast_same _ _
    exact congrArg (fun x => k.run R (St.faccTo _ x)) (e3 _)
  · exact cell1_put _ _

end Cert.Bce
-- ==== Proof.Last.lean ====
/-
  The final step: the loss lanes and the counts go to the rows of sums, and the loss and the new table
  are computed from those.
-/
module

public import proofs.«01_k».proof.Proof.Slow

@[expose] public section

noncomputable section

namespace Cert.Bce

open Idealize.ShloMosaic

/-! ## The rows of sums on the fast path -/

/-- The counts' totals, bin by bin, to the row of counts. -/
def drainCounts : Cmd Ideal → Cmd Ideal :=
  bins fun b k => ldFacc b fun f => ldAcc 0 b fun _ => stAcc 0 b (sumLane (F := Ideal) (shapeCast S8x128 f cast_lane)) k

theorem drainCounts_does (st : St Ideal) :
    ∃ w, Does drainCounts st (st.accTo w) ∧ (∀ b, cell2 w 0 b = total st.facc b) ∧ ∀ b, cell2 w 1 b = cell2 st.acc 1 b := by
  obtain ⟨s', d, w, hs, hw, h1⟩ := bins_does (F := Ideal) (fun b k => ldFacc b fun f => ldAcc 0 b fun _ =>
      stAcc 0 b (sumLane (F := Ideal) (shapeCast S8x128 f cast_lane)) k)
    (fun m st' => ∃ w, st' = st.accTo w ∧ (∀ b : Fin 10, b.val < m → cell2 w 0 b = total st.facc b) ∧ ∀ b, cell2 w 1 b = cell2 st.acc 1 b)
    (fun b st1 => by
      rintro ⟨w, rfl, hw, h1⟩
      refine ⟨st.accTo (putCell2 w 0 b (sumLane (F := Ideal) (shapeCast S8x128 (lanes st.facc b) cast_lane))), fun R k => ?_, _, rfl, fun b' hb => ?_, fun b' => ?_⟩
      · rw [ldFacc_run, ldAcc_run, stAcc_run, St.accTo_accTo]; rfl
      · rw [cell2_put]
        by_cases e : b' = b
        · subst e
          rw [if_pos ⟨rfl, rfl⟩, sumLane_eq, sum_shapeCast]
          rfl
        · have hne : b'.val ≠ b.val := fun he => e (Fin.ext he)
          rw [if_neg (fun h => e h.2)]
          exact hw b' (by omega)
      · rw [cell2_put, if_neg (fun h => absurd h.1 (by decide))]
        exact h1 b') st
    ⟨st.acc, (St.accTo_same st).symm, fun b h => absurd h (by omega), fun _ => rfl⟩
  rw [hs] at d
  exact ⟨w, d, fun b => hw b b.isLt, h1⟩

theorem drain_does (st : St Ideal) :
    ∃ w, Does drain st (st.accTo w) ∧ (∀ b, cell2 w 0 b = total st.facc b)
      ∧ ∀ b, cell2 w 1 b = if b = 0 then cell2 st.acc 1 0 - ∑ i, st.vacc i else cell2 st.acc 1 b := by
  obtain ⟨w, d, h0, h1⟩ := drainCounts_does (st.accTo (putCell2 st.acc 1 0 (Scalar.subf (F := Ideal) (φ := .f32) (cell2 st.acc 1 0) (sumWide (F := Ideal) st.vacc))))
  rw [St.accTo_accTo] at d
  refine ⟨w, fun R k => ?_, h0, fun b => (h1 b).trans ?_⟩
  · rw [← d R k]
    show (ldAcc 1 0 _).run R st = _
    rw [ldAcc_run, ldVacc_run, ldAcc_run, stAcc_run]
    rfl
  · refine (cell2_put _ _ _ _ _ _).trans ?_
    rw [sumWide_eq]
    by_cases e : b = 0
    · rw [if_pos ⟨rfl, e⟩, if_pos e]; rfl
    · rw [if_neg (fun h => e h.2), if_neg e]

/-! ## The results from the rows of sums -/

/-- The losses over the table, added up. -/
def lossFold (k : EReal → Cmd Ideal) : Cmd Ideal :=
  fold (fun b s k => ldAcc 1 b fun l => ldEma b fun e => k (Scalar.addf (F := Ideal) (φ := .f32) s (Scalar.divf (F := Ideal) (φ := .f32) l e))) 10 0 rfl (lit (F := Ideal) 0x00000000#32) k

theorem lossFold_run (st : St Ideal) (R : BitVec 32 → St Ideal → St Ideal) (k : EReal → Cmd Ideal) :
    (lossFold k).run R st = (k (∑ b, Ideal.div (cell2 st.acc 1 b) (cell st.ema b))).run R st := by
  obtain ⟨a, s', d, hs, ha⟩ := fold_does (F := Ideal) (fun b s k => ldAcc 1 b fun l => ldEma b fun e =>
      k (Scalar.addf (F := Ideal) (φ := .f32) s (Scalar.divf (F := Ideal) (φ := .f32) l e)))
    (fun m (a : EReal) st' => st' = st ∧ a = upTo (fun b => Ideal.div (cell2 st.acc 1 b) (cell st.ema b)) m)
    (fun b a st1 => by
      rintro ⟨hs, ha⟩
      refine ⟨Scalar.addf (F := Ideal) (φ := .f32) a (Scalar.divf (F := Ideal) (φ := .f32) (cell2 st1.acc 1 b) (cell st1.ema b)), st1,
        fun R k => by rw [ldAcc_run, ldEma_run], hs, ?_⟩
      rw [upTo_succ, ← ha, hs]
      rfl) 10 0 rfl (lit (F := Ideal) 0x00000000#32) st ⟨rfl, by rw [upTo_zero]; exact lit_zero⟩
  rw [hs, ha, upTo_all] at d
  exact d R k

/-- The table's entries after `X`, stored and added up. -/
def emaFold (X : EReal → EReal → EReal) (k : EReal → Cmd Ideal) : Cmd Ideal :=
  fold (fun b s k => ldEma b fun e => ldAcc 0 b fun n => ldOut b fun _ => stOut b (X e n) <| k (Scalar.addf (F := Ideal) (φ := .f32) s (X e n))) 10 0 rfl
    (lit (F := Ideal) 0x00000000#32) k

theorem emaFold_run (X : EReal → EReal → EReal) (st : St Ideal) (R : BitVec 32 → St Ideal → St Ideal) (k : EReal → Cmd Ideal) :
    ∃ w, (emaFold X k).run R st = (k (∑ b, X (cell st.ema b) (cell2 st.acc 0 b))).run R (st.emaoTo w)
      ∧ ∀ b, cell w b = X (cell st.ema b) (cell2 st.acc 0 b) := by
  obtain ⟨a, s', d, w, hs, ha, hw⟩ := fold_does (F := Ideal) (fun b s k => ldEma b fun e => ldAcc 0 b fun n => ldOut b fun _ => stOut b (X e n) <|
      k (Scalar.addf (F := Ideal) (φ := .f32) s (X e n)))
    (fun m (a : EReal) st' => ∃ w, st' = st.emaoTo w ∧ a = upTo (fun b => X (cell st.ema b) (cell2 st.acc 0 b)) m
      ∧ ∀ b : Fin 10, b.val < m → cell w b = X (cell st.ema b) (cell2 st.acc 0 b))
    (fun b a st1 => by
      rintro ⟨w, rfl, ha, hw⟩
      refine ⟨Scalar.addf (F := Ideal) (φ := .f32) a (X (cell st.ema b) (cell2 st.acc 0 b)), st.emaoTo (putCell w b (X (cell st.ema b) (cell2 st.acc 0 b))), fun R k => ?_, _, rfl, ?_, fun b' hb => ?_⟩
      · rw [ldEma_run, ldAcc_run, ldOut_run, stOut_run, St.emaoTo_emaoTo]; rfl
      · rw [upTo_succ, ← ha]; rfl
      · rw [cell_put]
        by_cases e : b' = b
        · rw [if_pos e, e]
        · have hne : b'.val ≠ b.val := fun he => e (Fin.ext he)
          rw [if_neg e]
          exact hw b' (by omega)) 10 0 rfl (lit (F := Ideal) 0x00000000#32) st
    ⟨st.emao, (St.emaoTo_same st).symm, by rw [upTo_zero]; exact lit_zero, fun b h => absurd h (by omega)⟩
  rw [hs, ha, upTo_all] at d
  exact ⟨w, d R k, fun b => hw b b.isLt⟩

/-- The table's entries after `Y`. -/
def outBins (Y : EReal → EReal) : Cmd Ideal → Cmd Ideal := bins fun b k => ldOut b fun x => ldOut b fun _ => stOut b (Y x) k

theorem outBins_does (Y : EReal → EReal) (st : St Ideal) : ∃ w, Does (outBins Y) st (st.emaoTo w) ∧ ∀ b, cell w b = Y (cell st.emao b) := by
  obtain ⟨s', d, w, hs, hw⟩ := bins_does (F := Ideal) (fun b k => ldOut b fun x => ldOut b fun _ => stOut b (Y x) k)
    (fun m st' => ∃ w, st' = st.emaoTo w ∧ ∀ b : Fin 10, cell w b = if b.val < m then Y (cell st.emao b) else cell st.emao b)
    (fun b st1 => by
      rintro ⟨w, rfl, hw⟩
      refine ⟨st.emaoTo (putCell w b (Y (cell w b))), fun R k => ?_, _, rfl, fun b' => ?_⟩
      · rw [ldOut_run, ldOut_run, stOut_run, St.emaoTo_emaoTo]; rfl
      · rw [cell_put]
        by_cases e : b' = b
        · rw [if_pos e, if_pos (by omega), hw b, if_neg (by omega), e]
        · have hne : b'.val ≠ b.val := fun he => e (Fin.ext he)
          rw [if_neg e, hw b']
          by_cases hb : b'.val < b.val
          · rw [if_pos hb, if_pos (by omega)]
          · rw [if_neg hb, if_neg (by omega)]) st
    ⟨st.emao, (St.emaoTo_same st).symm, fun b => by rw [if_neg (by omega)]⟩
  rw [hs] at d
  exact ⟨w, d, fun b => by rw [hw b, if_pos b.isLt]⟩

/-- An entry of the table, decayed and moved by a bin's count. -/
def moved (e n : EReal) : EReal :=
  e * Ideal.ofBits .f32 0x3F7FBE77#32 + Ideal.ofBits .f32 0x3A83126F#32 * (Ideal.div n (Ideal.ofBits .f32 0x4B800000#32) * Ideal.ofBits .f32 0x41200000#32)

/-- An entry brought to scale by the sum of all. -/
def scaled (s x : EReal) : EReal := Ideal.div x (max s (Ideal.ofBits .f32 0x2EDBE6FF#32)) * Ideal.ofBits .f32 0x41200000#32

/-- The factor of the loss: on the fast path the losses are in binary logarithms. -/
def lossScale (c : Consts Ideal) (fl : BitVec 32) : EReal := Scalar.select (Scalar.cmpi .eq fl 1#32) c.ln2 (lit (F := Ideal) 0x3F800000#32)

theorem results_run (c : Consts Ideal) (st : St Ideal) (R : BitVec 32 → St Ideal → St Ideal) :
    cell1 (St.loss ((results c .done).run R st))
      = Ideal.div ((∑ b, Ideal.div (cell2 st.acc 1 b) (cell st.ema b)) * lossScale c (cell1 st.flag)) (Ideal.ofBits .f32 0x4B800000#32)
    ∧ ∀ b, cell (St.emao ((results c .done).run R st)) b
      = scaled (∑ b, moved (cell st.ema b) (cell2 st.acc 0 b)) (moved (cell st.ema b) (cell2 st.acc 0 b)) := by
  let v := Ideal.div ((∑ b, Ideal.div (cell2 st.acc 1 b) (cell st.ema b)) * lossScale c (cell1 st.flag)) (Ideal.ofBits .f32 0x4B800000#32)
  let s1 := st.lossTo (putCell1 st.loss v)
  have e : (results c .done).run R st = (emaFold moved fun s => outBins (scaled s) .done).run R s1 := by
    show (ldFlag _).run R st = _
    rw [ldFlag_run]
    refine (lossFold_run st R _).trans ?_
    rw [ldLoss_run, stLoss_run]
    rfl
  obtain ⟨w, h1, hw⟩ := emaFold_run moved s1 R fun s => outBins (scaled s) .done
  obtain ⟨w', d', hw'⟩ := outBins_does (scaled (∑ b, moved (cell s1.ema b) (cell2 s1.acc 0 b))) (s1.emaoTo w)
  have e2 : (results c .done).run R st = (s1.emaoTo w).emaoTo w' := (e.trans h1).trans (d' R _)
  rw [e2]
  refine ⟨cell1_put _ _, fun b => (hw' b).trans (congrArg _ (hw b))⟩

end Cert.Bce
-- ==== Proof.Step.lean ====
/-
  The steps one after another: what the scratch buffers hold after the first `n` steps, and the results
  that the last step leaves.
-/
module

public import proofs.«01_k».proof.Proof.Last
public import proofs.«01_k».proof.Proof.Sem

@[expose] public section

noncomputable section

namespace Cert.Bce

open Idealize.ShloMosaic

/-! ## Sums over the blocks -/

section
variable (P T : ℕ → FVec Ideal S256x4096 .f32)

/-- How often bin `b` occurs in the first `n` blocks. -/
def hitsUp (n : ℕ) (b : Fin 10) : ℕ := ∑ k ∈ Finset.range n, hits (P k) (T k) b

/-- The losses of bin `b` in the first `n` blocks. -/
def lossUp (n : ℕ) (b : Fin 10) : ℝ := ∑ k ∈ Finset.range n, lossIn (P k) (T k) b

theorem hitsUp_succ (n : ℕ) (b : Fin 10) : hitsUp P T (n + 1) b = hitsUp P T n b + hits (P n) (T n) b := Finset.sum_range_succ _ _

theorem lossUp_succ (n : ℕ) (b : Fin 10) : lossUp P T (n + 1) b = lossUp P T n b + lossIn (P n) (T n) b := Finset.sum_range_succ _ _

end

/-- The losses of a block are those of its bins together. -/
theorem sum_lossIn (P T : FVec Ideal S256x4096 .f32) : ∑ b, lossIn P T b = ∑ i, raw (P i) (T i) := by
  unfold lossIn
  rw [Finset.sum_comm]
  exact Finset.sum_congr rfl fun i _ => by rw [Finset.sum_ite_eq, if_pos (Finset.mem_univ _)]

theorem sum_loss2 (P T : FVec Ideal S256x4096 .f32) :
    ∑ i, loss2 (P i) (T i) = ((-(∑ b, lossIn P T b) * (Real.log 2)⁻¹ : ℝ) : EReal) := by
  unfold loss2
  rw [ereal_sum_coe, sum_lossIn, ← Finset.sum_mul, Finset.sum_neg_distrib]

/-! ## What is carried from step to step -/

/-- After `n` steps: on the fast path the loss lanes and the counts hold the blocks' sums and the rows of sums are clear,
    on the general path the rows of sums hold them. -/
structure Carry (P T : ℕ → FVec Ideal S256x4096 .f32) (E : S10.Idx → EReal) (n : ℕ) (st : St Ideal) : Prop where
  flag : cell1 st.flag = flagOf E
  vacc : AllOne E → ∑ i, st.vacc i = ((-(∑ b, lossUp P T n b) * (Real.log 2)⁻¹ : ℝ) : EReal)
  facc : AllOne E → ∀ b, total st.facc b = nat (hitsUp P T n b)
  clear : AllOne E → ∀ r b, cell2 st.acc r b = 0
  count : ¬ AllOne E → ∀ b, cell2 st.acc 0 b = nat (hitsUp P T n b)
  loss : ¬ AllOne E → ∀ b, cell2 st.acc 1 b = ((lossUp P T n b : ℝ) : EReal)

theorem nat_zero : nat 0 = 0 := by rw [nat, Nat.cast_zero, EReal.coe_zero]

variable {P T : ℕ → FVec Ideal S256x4096 .f32} {E : S10.Idx → EReal}

/-- The prologue leaves what is carried after no steps. -/
theorem carry_zero {st st' : St Ideal} (hE : st.ema = E) (h : Cleared st st') : Carry P T E 0 st' where
  flag := by rw [h.flag, hE]
  vacc _ := by
    rw [Finset.sum_congr rfl fun i _ => h.vacc i]
    simp [lossUp]
  facc _ b := by
    have e : ∀ i, lanes st'.facc b i = 0 := fun i => h.facc _
    rw [total, Finset.sum_congr rfl fun i _ => e i, Finset.sum_const_zero, hitsUp, Finset.sum_range_zero, nat_zero]
  clear _ := h.acc
  count _ b := by rw [h.acc, hitsUp, Finset.sum_range_zero, nat_zero]
  loss _ b := by rw [h.acc, lossUp, Finset.sum_range_zero, EReal.coe_zero]

/-- What follows the fast path. -/
def restOf (f : BitVec 32) : Cmd Ideal := .cond (nz (Scalar.xori (Scalar.cmpi .eq f 1#32) 1#1)) (general (.exit f)) (.exit f)

/-- What follows the prologue. -/
def mainOf (c : Consts Ideal) : Cmd Ideal := ldFlag fun f => .cond (nz (Scalar.cmpi .eq f 1#32)) (fast c (restOf f)) (restOf f)

theorem body_parts (c : Consts Ideal) (i : BitVec 32) : body c i = .cond (nz (Scalar.cmpi .eq i 0#32)) (prologue (mainOf c)) (mainOf c) := rfl

theorem flag_one : nz (Scalar.cmpi .eq 1#32 1#32) = 1#1 := by decide
theorem flag_zero : ¬ nz (Scalar.cmpi .eq 0#32 1#32) = 1#1 := by decide
theorem other_one : ¬ nz (Scalar.xori (Scalar.cmpi .eq 1#32 1#32) 1#1) = 1#1 := by decide
theorem other_zero : nz (Scalar.xori (Scalar.cmpi .eq 0#32 1#32) 1#1) = 1#1 := by decide

/-- The path that the flag picks adds a block to what is carried. -/
theorem main_run {c : Consts Ideal} (hc : c.Exact) {n : ℕ} {st : St Ideal} (hp : st.p = P n) (ht : st.t = T n) (hE : st.ema = E)
    (hok : ∀ i, Ok (P n i) (T n i)) (h : Carry P T E n st) :
    ∃ st', (∀ R, (mainOf c).run R st = R (flagOf E) st') ∧ st'.ema = E ∧ Carry P T E (n + 1) st' := by
  have hok' : ∀ i, Ok (st.p i) (st.t i) := by rw [hp, ht]; exact hok
  by_cases hA : AllOne E
  · have hf : flagOf E = 1#32 := if_pos hA
    obtain ⟨st', d, f⟩ := fast_does hc st hok'
    have es : st'.s = st.s := f.s
    have e1 : st'.ema = st.ema := congrFun es .ema
    have e2 : st'.flag = st.flag := congrFun es .flag
    have e3 : st'.acc = st.acc := congrFun es .acc
    refine ⟨st', fun R => ?_, e1.trans hE, ?_, fun _ => ?_, fun _ b => ?_, fun _ r b => ?_, fun h => absurd hA h, fun h => absurd hA h⟩
    · unfold mainOf
      rw [ldFlag_run, h.flag, hf]
      show (if _ then _ else _) = _
      rw [if_pos flag_one, d]
      show (if _ then _ else _) = _
      rw [if_neg other_one]
      rfl
    · rw [e2]; exact h.flag
    · rw [f.vacc, lossAt_all, hp, ht, sum_loss2, h.vacc hA, ← EReal.coe_add]
      refine congrArg _ ?_
      rw [Finset.sum_congr rfl fun b _ => lossUp_succ P T n b, Finset.sum_add_distrib]
      ring
    · rw [f.facc, count_all, hp, ht, h.facc hA, ← nat_add, hitsUp_succ]
    · rw [e3]; exact h.clear hA r b
  · have hf : flagOf E = 0#32 := if_neg hA
    obtain ⟨w, d, h0, h1⟩ := general_does st hok'
    refine ⟨st.accTo w, fun R => ?_, hE, h.flag, fun h => absurd h hA, fun h => absurd h hA, fun h => absurd h hA, fun _ b => ?_, fun _ b => ?_⟩
    · unfold mainOf
      rw [ldFlag_run, h.flag, hf]
      show (if _ then _ else _) = _
      rw [if_neg flag_zero]
      show (if _ then _ else _) = _
      rw [if_pos other_zero, d]
      rfl
    · refine (h0 b).trans ?_
      rw [h.count hA, hp, ht, ← nat_add, hitsUp_succ]
    · refine (h1 b).trans ?_
      rw [h.loss hA, hp, ht, ← EReal.coe_add, lossUp_succ]

/-- The body up to its final part, at step `n`. -/
theorem body_run {c : Consts Ideal} (hc : c.Exact) {n : ℕ} {i : BitVec 32} (hi : nz (Scalar.cmpi .eq i 0#32) = 1#1 ↔ n = 0) {st : St Ideal}
    (hp : st.p = P n) (ht : st.t = T n) (hE : st.ema = E) (hok : ∀ i, Ok (P n i) (T n i)) (h : 0 < n → Carry P T E n st) :
    ∃ st', (∀ R, (body c i).run R st = R (flagOf E) st') ∧ st'.ema = E ∧ Carry P T E (n + 1) st' := by
  by_cases h0 : n = 0
  · obtain ⟨s1, d, hcl⟩ := prologue_does st
    subst h0
    obtain ⟨st', hr, h'⟩ := main_run hc (hcl.same.p.trans hp) (hcl.same.t.trans ht) (hcl.same.ema.trans hE) hok (carry_zero hE hcl)
    refine ⟨st', fun R => ?_, h'⟩
    rw [body_parts]
    show (if _ then _ else _) = _
    rw [if_pos (hi.2 rfl), d]
    exact hr R
  · obtain ⟨st', hr, h'⟩ := main_run hc hp ht hE hok (h (Nat.pos_of_ne_zero h0))
    refine ⟨st', fun R => ?_, h'⟩
    rw [body_parts]
    show (if _ then _ else _) = _
    rw [if_neg (fun h => h0 (hi.1 h))]
    exact hr R

/-! ## The results -/

/-- The reciprocal of an entry of the table. -/
def invOf (E : S10.Idx → EReal) (b : Fin 10) : ℝ := ((cell E b)⁻¹).toReal

theorem inv_real {e : EReal} : e⁻¹ = ((e⁻¹).toReal : EReal) := by
  induction e with
  | bot => simp
  | top => simp
  | coe x => rw [← EReal.coe_inv, EReal.toReal_coe]

theorem div_real (x : ℝ) {e : EReal} (h : e ≠ 0) : Ideal.div (x : EReal) e = ((x * (e⁻¹).toReal : ℝ) : EReal) := by
  rw [Ideal.div, if_neg h, EReal.coe_mul, ← inv_real]

/-- The loss from the bins' losses. -/
def lossOf (E : S10.Idx → EReal) (L : Fin 10 → ℝ) : EReal := (((∑ b, L b * invOf E b) / 16777216 : ℝ) : EReal)

/-- The new table from the bins' counts. -/
def tableOf (E : S10.Idx → EReal) (C : Fin 10 → ℕ) (b : Fin 10) : EReal :=
  scaled (∑ b, moved (cell E b) (nat (C b))) (moved (cell E b) (nat (C b)))

theorem div_count (x : ℝ) : Ideal.div (x : EReal) (Ideal.ofBits .f32 0x4B800000#32) = ((x / 16777216 : ℝ) : EReal) := by
  rw [lit_count, Ideal.div, if_neg (by norm_num), ← EReal.coe_inv, ← EReal.coe_mul, div_eq_mul_inv]

theorem scale_one {c : Consts Ideal} (hc : c.Exact) : lossScale c 1#32 = ((Real.log 2 : ℝ) : EReal) := hc.2.2

theorem scale_zero (c : Consts Ideal) : lossScale c 0#32 = ((1 : ℝ) : EReal) := lit_one

/-- On the fast path the losses, all in the first entry and in binary logarithms, come to the loss. -/
theorem loss_fast (hA : AllOne E) (L : Fin 10 → ℝ) (x : Fin 10 → EReal)
    (hx : ∀ b, x b = if b = 0 then 0 - ((-(∑ b, L b) * (Real.log 2)⁻¹ : ℝ) : EReal) else 0) :
    Ideal.div ((∑ b, Ideal.div (x b) (cell E b)) * ((Real.log 2 : ℝ) : EReal)) (Ideal.ofBits .f32 0x4B800000#32) = lossOf E L := by
  have e1 : ∀ b, Ideal.div (x b) (cell E b) = if b = 0 then (((∑ b, L b) * (Real.log 2)⁻¹ : ℝ) : EReal) else 0 := fun b => by
    rw [hA b, Ideal.div, if_neg one_ne_zero, inv_one, mul_one, hx b]
    refine if_congr Iff.rfl ?_ rfl
    rw [← EReal.coe_zero, ← EReal.coe_sub]
    exact congrArg _ (by ring)
  have hl : Real.log 2 ≠ 0 := (Real.log_pos (by norm_num)).ne'
  have e2 : ∀ b, invOf E b = 1 := fun b => by
    rw [invOf, hA b, inv_one]
    exact EReal.toReal_one
  have e3 : ∑ b, L b * invOf E b = ∑ b, L b := Finset.sum_congr rfl fun b _ => by rw [e2 b, mul_one]
  rw [Finset.sum_congr rfl fun b _ => e1 b, Finset.sum_ite_eq', if_pos (Finset.mem_univ _), ← EReal.coe_mul, div_count, lossOf, e3,
    mul_assoc, inv_mul_cancel₀ hl, mul_one]

/-- On the general path. -/
theorem loss_general (h0 : ∀ b, cell E b ≠ 0) (L : Fin 10 → ℝ) (x : Fin 10 → EReal) (hx : ∀ b, x b = (L b : EReal)) :
    Ideal.div ((∑ b, Ideal.div (x b) (cell E b)) * ((1 : ℝ) : EReal)) (Ideal.ofBits .f32 0x4B800000#32) = lossOf E L := by
  rw [Finset.sum_congr rfl fun b _ => by rw [hx b, div_real _ (h0 b)], ereal_sum_coe, ← EReal.coe_mul, mul_one, div_count, lossOf]
  rfl

/-- What the final part leaves in the results' buffers. -/
theorem final_run {c : Consts Ideal} (hc : c.Exact) {n : ℕ} {i : BitVec 32} (hi : nz (Scalar.cmpi .eq i 15#32) = 1#1) {st : St Ideal}
    (hE : st.ema = E) (h0 : ∀ b, cell E b ≠ 0) (h : Carry P T E n st) (R : BitVec 32 → St Ideal → St Ideal) :
    cell1 (St.loss ((final c i (flagOf E)).run R st)) = lossOf E (lossUp P T n)
      ∧ ∀ b, cell (St.emao ((final c i (flagOf E)).run R st)) b = tableOf E (hitsUp P T n) b := by
  have e : (final c i (flagOf E)).run R st = (Cmd.cond (nz (Scalar.cmpi .eq (flagOf E) 1#32)) (drain (results c .done)) (results c .done)).run R st := by
    show (if _ then _ else _) = _
    rw [if_pos hi]
  rw [e]
  by_cases hA : AllOne E
  · have hf : flagOf E = 1#32 := if_pos hA
    obtain ⟨w, d, w0, w1⟩ := drain_does st
    have e' : (Cmd.cond (nz (Scalar.cmpi .eq (flagOf E) 1#32)) (drain (results c .done)) (results c .done)).run R st = (results c .done).run R (st.accTo w) := by
      rw [hf]
      show (if _ then _ else _) = _
      rw [if_pos flag_one, d]
    rw [e']
    obtain ⟨r1, r2⟩ := results_run c (st.accTo w) R
    refine ⟨r1.trans ?_, fun b => (r2 b).trans ?_⟩
    · show Ideal.div ((∑ b, Ideal.div (cell2 w 1 b) (cell st.ema b)) * lossScale c (cell1 st.flag)) _ = _
      rw [h.flag, hf, scale_one hc, hE]
      refine loss_fast hA _ _ fun b => ?_
      rw [w1 b, h.clear hA, h.vacc hA, h.clear hA]
    · show scaled (∑ b, moved (cell st.ema b) (cell2 w 0 b)) (moved (cell st.ema b) (cell2 w 0 b)) = _
      have e0 : ∀ b, cell2 w 0 b = nat (hitsUp P T n b) := fun b => (w0 b).trans (h.facc hA b)
      simp only [e0, hE, tableOf]
  · have hf : flagOf E = 0#32 := if_neg hA
    have e' : (Cmd.cond (nz (Scalar.cmpi .eq (flagOf E) 1#32)) (drain (results c .done)) (results c .done)).run R st = (results c .done).run R st := by
      rw [hf]
      show (if _ then _ else _) = _
      rw [if_neg flag_zero]
    rw [e']
    obtain ⟨r1, r2⟩ := results_run c st R
    refine ⟨r1.trans ?_, fun b => (r2 b).trans ?_⟩
    · rw [h.flag, hf, scale_zero, hE]
      exact loss_general h0 _ _ (h.loss hA)
    · simp only [h.count hA, hE, tableOf]

end Cert.Bce
-- ==== Proof.Fetched.lean ====
/-
  The blocks that the kernel's windows fetch, read off the arguments.
-/
module

public import proofs.«01_k».proof.Proof.KernelIdealRun
public import proofs.«01_k».proof.Proof.Step

@[expose] public section

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

theorem index_1 : ∀ t : Fin cfg0.N, win0_1.index t = ![t.val, 0] := by decide
theorem index_2 : ∀ t : Fin cfg0.N, win0_2.index t = ![t.val, 0] := by decide
theorem index_0 : ∀ t : Fin cfg0.N, win0_0.index t = ![0] := by decide

variable (m : (ℓ : Loc nD τ sig) → Buf (Elt Ideal) ℓ) (c : Dev nD)

/-- The first big window at grid point `t` holds the `t`-th block of rows of the first argument. -/
theorem fetched_1 (t : Fin cfg0.N) (n : Fin 16) (hn : t.val = n.val) (i : Bce.S256x4096.Idx) :
    iblk m c 1 t i = (m ((c : Thread nD τ).loc main_arg0) : Bce.S4096x4096.Idx → EReal) (Bce.blockAt n i) := by
  refine congrArg (m ((c : Thread nD τ).loc main_arg0) : Bce.S4096x4096.Idx → EReal) ?_
  funext a
  refine Fin.ext ?_
  refine (Window.rect_emb_val win0_1 t i a).trans ?_
  rw [index_1 t, hn]
  revert a
  refine Fin.forall_fin_two.2 ⟨?_, ?_⟩
  · show n.val * 256 + (i 0).val = 256 * n.val + (i 0).val
    omega
  · show 0 * 4096 + (i 1).val = (i 1).val
    omega

/-- The second big window at grid point `t` holds the `t`-th block of rows of the second argument. -/
theorem fetched_2 (t : Fin cfg0.N) (n : Fin 16) (hn : t.val = n.val) (i : Bce.S256x4096.Idx) :
    iblk m c 2 t i = (m ((c : Thread nD τ).loc main_arg1) : Bce.S4096x4096.Idx → EReal) (Bce.blockAt n i) := by
  refine congrArg (m ((c : Thread nD τ).loc main_arg1) : Bce.S4096x4096.Idx → EReal) ?_
  funext a
  refine Fin.ext ?_
  refine (Window.rect_emb_val win0_2 t i a).trans ?_
  rw [index_2 t, hn]
  revert a
  refine Fin.forall_fin_two.2 ⟨?_, ?_⟩
  · show n.val * 256 + (i 0).val = 256 * n.val + (i 0).val
    omega
  · show 0 * 4096 + (i 1).val = (i 1).val
    omega

/-- The window on the table holds the whole table at every grid point. -/
theorem fetched_0 (t : Fin cfg0.N) (i : Bce.S10.Idx) :
    iblk m c 0 t i = (m ((c : Thread nD τ).loc main_arg3) : Bce.S10.Idx → EReal) i := by
  refine congrArg (m ((c : Thread nD τ).loc main_arg3) : Bce.S10.Idx → EReal) ?_
  funext a
  refine Fin.ext ?_
  refine (Window.rect_emb_val win0_0 t i a).trans ?_
  rw [index_0 t]
  revert a
  refine Fin.forall_fin_one.2 ?_
  show 0 * 10 + (i 0).val = (i 0).val
  omega

end Cert.KernelIdeal.Hand
-- ==== Proof.Inputs.lean ====
/-
  What the precondition says of the arguments, entry by entry.
-/
module

public import proofs.«01_k».proof.Defs
public import proofs.«01_k».proof.Proof.Step
public import proofs.«01_k».proof.Proof.Gen.Pre_inputs_in_range

@[expose] public section

noncomputable section

namespace Cert.Inputs

open Idealize.ShloMosaic Idealize.SL.Sem
open Cert.Bce (Ok cell)

/-- A comparison that comes out one holds. -/
theorem of_bit {q : Prop} [Decidable q] (h : BitVec.ofBool (decide q) = 1#1) : q := by
  by_contra hq
  rw [decide_eq_false hq] at h
  exact absurd h (by decide)

/-- An extended real between zero and one is a real number. -/
theorem real_of_unit {t : EReal} (h0 : ((0 : ℝ) : EReal) ≤ t) (h1 : t ≤ ((1 : ℝ) : EReal)) : ∃ y : ℝ, t = y ∧ 0 ≤ y ∧ y ≤ 1 := by
  induction t using EReal.rec with
  | bot => exact absurd h0 (by simp)
  | top => exact absurd h1 (EReal.coe_lt_top 1).not_ge
  | coe y => exact ⟨y, rfl, EReal.coe_le_coe_iff.1 h0, EReal.coe_le_coe_iff.1 h1⟩

/-- A prediction nearer than one to a target in the unit interval. -/
theorem ok_of {p t : EReal} (h0 : ((0 : ℝ) : EReal) ≤ t) (h1 : t ≤ ((1 : ℝ) : EReal)) (h : max (p - t) (-(p - t)) < ((1 : ℝ) : EReal)) : Ok p t := by
  obtain ⟨y, rfl, hy0, hy1⟩ := real_of_unit h0 h1
  induction p using EReal.rec with
  | bot => exact absurd h (by simp)
  | top => exact absurd h (by simp)
  | coe x =>
    rw [← EReal.coe_sub, Bce.abs_coe] at h
    exact ⟨x, y, rfl, rfl, hy0, hy1, EReal.coe_lt_coe_iff.1 h⟩

variable {P T M : FVec Ideal Pre_inputs_in_range.S4096x4096 .f32} {E : FVec Ideal Pre_inputs_in_range.S10 .f32}

local instance : Pre_inputs_in_range.Facts := Pre_inputs_in_range.Gen.facts

theorem first_apply (x) : (Pre_inputs_in_range.fn P T M E).1 x = Ideal.cmp .oge (T x) (Ideal.ofBits .f32 0x00000000#32) := rfl
theorem second_apply (x) : (Pre_inputs_in_range.fn P T M E).2.1 x = Ideal.cmp .ole (T x) (Ideal.ofBits .f32 0x3F800000#32) := rfl
theorem third_apply (x) : (Pre_inputs_in_range.fn P T M E).2.2.1 x
    = Ideal.cmp .olt (max (P x - T x) (-(P x - T x))) (Ideal.ofBits .f32 0x3F800000#32) := rfl
theorem fourth_apply (x) : (Pre_inputs_in_range.fn P T M E).2.2.2.1 x = Ideal.cmp .oeq (M x) (Ideal.ofBits .f32 0x3F800000#32) := rfl
theorem fifth_apply (x) : (Pre_inputs_in_range.fn P T M E).2.2.2.2 x = Ideal.cmp .une (E x) (Ideal.ofBits .f32 0x00000000#32) := rfl

/-- The precondition's first three answers, all ones. -/
theorem pairs_ok (h1 : (Pre_inputs_in_range.fn P T M E).1 = fun _ => 1#1) (h2 : (Pre_inputs_in_range.fn P T M E).2.1 = fun _ => 1#1)
    (h3 : (Pre_inputs_in_range.fn P T M E).2.2.1 = fun _ => 1#1) (x) : Ok (P x) (T x) := by
  have e1 := congrFun h1 x
  have e2 := congrFun h2 x
  have e3 := congrFun h3 x
  rw [first_apply, Bce.lit_zero] at e1
  rw [second_apply, Bce.lit_one] at e2
  rw [third_apply, Bce.lit_one] at e3
  exact ok_of (of_bit e1) (of_bit e2) (of_bit e3)

/-- The fourth, all ones. -/
theorem mask_one (h : (Pre_inputs_in_range.fn P T M E).2.2.2.1 = fun _ => 1#1) (x) : M x = (1 : EReal) := by
  have e := congrFun h x
  rw [fourth_apply, Bce.lit_one, EReal.coe_one] at e
  exact of_bit e

/-- The fifth, all ones. -/
theorem table_ne (h : (Pre_inputs_in_range.fn P T M E).2.2.2.2 = fun _ => 1#1) (b : Fin 10) : cell E b ≠ (0 : EReal) := by
  have e := congrFun h (Bce.at1 b)
  rw [fifth_apply, Bce.lit_zero, EReal.coe_zero] at e
  exact of_bit e

end Cert.Inputs
-- ==== Proof.Reference.lean ====
/-
  What the reference computes: its operations, gathered into named parts, and each part read at an index.
-/
module

public import proofs.«01_k».proof.Proof.Step
public import proofs.«01_k».proof.Proof.Gen.ReferenceIdeal
public import proofs.«01_k».proof.Proof.Gen.ReferenceIdeal.Run
public import Idealize.ShloMosaic.Lib.ValueIdxCore
public import Idealize.ShloMosaic.Lib.Routing.OpsPair

@[expose] public section

noncomputable section

namespace Cert.ReferenceIdeal.Hand

open Cert.ReferenceIdeal
open Idealize.ShloMosaic Idealize.ShloMosaic.ValueIdx Idealize.SL.Sem
open Cert.ReferenceIdeal.Facts₀ Cert.ReferenceIdeal.Facts
open Cert.Bce (Ok bin raw nat)

variable (P T M : FVec Ideal S4096x4096 .f32) (E : FVec Ideal S10 .f32)

/-! ## The parts -/

/-- A literal at every place of the arrays. -/
abbrev lits (b : BitVec 32) : FVec Ideal S4096x4096 .f32 := broadcastInDim S4096x4096 ![] bcast_S_S4096x4096 (constant S_ .f32 b)
/-- A word at every place of the arrays. -/
abbrev words (b : BitVec 32) : IVec S4096x4096 32 := broadcastInDim S4096x4096 ![] bcast_S_S4096x4096 (constantI S_ 32 b)
/-- A literal at every bin. -/
abbrev binLits (b : BitVec 32) : FVec Ideal S10 .f32 := broadcastInDim S10 ![] bcast_S_S10 (constant S_ .f32 b)
/-- A word at every place of the arrays laid flat. -/
abbrev flatWords (b : BitVec 32) : IVec S16777216 32 := broadcastInDim S16777216 ![] bcast_S_S16777216 (constantI S_ 32 b)

/-- The targets clipped to the unit interval. -/
def clipped : FVec Ideal S4096x4096 .f32 := minimumf (lits 0x3F800000#32) (maximumf (lits 0x00000000#32) T)

/-- The bins. -/
def bins : IVec S4096x4096 32 :=
  minsi (words 9#32) (maxsi (words 0#32) (fptosi 32 (Host.floor (mulf (Host.absf (subf P (clipped T))) (lits 0x41200000#32)))))

/-- Words counted from the end where they are negative, as a column of indices. -/
def column (x : IVec S4096x4096 32) : IVec S4096x4096x1 32 :=
  broadcastInDim S4096x4096x1 ![0, 1] bcast_S4096x4096_S4096x4096x1_0_1 (select (cmpi .slt x (words 0#32)) (addi x (words 10#32)) x)

/-- Whether the indices lie in the table. -/
def inTable (x : IVec S4096x4096x1 32) : IVec S4096x4096 1 :=
  Host.reduce IntOp.andi (andi (cmpi .sge x (broadcastInDim S4096x4096x1 ![] bcast_S_S4096x4096x1 (constantI S_ 32 0#32)))
      (cmpi .sle x (broadcastInDim S4096x4096x1 ![0, 1, 2] bcast_S1x1x1_S4096x4096x1_0_1_2 (broadcastInDim S1x1x1 ![2] bcast_S1_S1x1x1_2 (constantI S1 32 9#32)))))
    (constantI S_ 1 1#1) reducesTo_S4096x4096x1_S4096x4096_d2 h_S_

/-- The table's entries at the indices. -/
def taken (x : IVec S4096x4096x1 32) : FVec Ideal S4096x4096 .f32 :=
  select (inTable x) (Host.gather gather_S10_S4096x4096x1_S4096x4096_n_0_n_n_0_2_1 E x) (lits 0x7FC00000#32)

/-- The cross-entropies. -/
def entropies : FVec Ideal S4096x4096 .f32 :=
  Host.negf (addf (mulf (clipped T) (maximumf (Host.log P) (lits 0xC2C80000#32)))
    (mulf (subf (lits 0x3F800000#32) (clipped T)) (maximumf (Host.log1p (Host.negf P)) (lits 0xC2C80000#32))))

/-- The sum of all entries. -/
abbrev sumAll (x : FVec Ideal S4096x4096 .f32) : FVec Ideal S_ .f32 :=
  Host.reduceAdd x (constant S_ .f32 0x00000000#32) reducesTo_S4096x4096_S_d0_1 h_S_

/-- The sum of all bins. -/
abbrev sumBins (x : FVec Ideal S10 .f32) : FVec Ideal S_ .f32 := Host.reduceAdd x (constant S_ .f32 0x00000000#32) reducesTo_S10_S_d0 h_S_

/-- The loss. -/
def lossR : FVec Ideal S_ .f32 :=
  Host.divf (sumAll (mulf (mulf (entropies P T) (Host.divf (lits 0x3F800000#32) (taken E (column (bins P T))))) M))
    (maximumf (sumAll M) (constant S_ .f32 0x2EDBE6FF#32))

/-- The bins laid flat. -/
def flatBins (x : IVec S4096x4096 32) : IVec S16777216 32 := maxsi (flatWords 0#32) (shapeCast _ x shapeCasts_S4096x4096_S16777216)

/-- The same as a column of indices. -/
def flatColumn (x : IVec S16777216 32) : IVec S16777216x1 32 :=
  broadcastInDim S16777216x1 ![0] bcast_S16777216_S16777216x1_0 (select (cmpi .slt x (flatWords 0#32)) (addi x (flatWords 10#32)) x)

/-- The histogram: the mask added up in each bin. -/
def histogram : FVec Ideal S10 .f32 :=
  Host.scatterAdd scatter_S10_S16777216x1_S16777216_n_0_0_1 (binLits 0x00000000#32) (flatColumn (flatBins (bins P T)))
    (shapeCast _ M shapeCasts_S4096x4096_S16777216)

/-- The table decayed and moved by the histogram. -/
def movedR (H : FVec Ideal S10 .f32) : FVec Ideal S10 .f32 :=
  addf (mulf E (binLits 0x3F7FBE77#32)) (mulf (binLits 0x3A83126F#32)
    (mulf (Host.divf H (broadcastInDim S10 ![] bcast_S_S10 (maximumf (sumBins H) (constant S_ .f32 0x2EDBE6FF#32)))) (binLits 0x41200000#32)))

/-- The table brought to scale. -/
def tableR (H : FVec Ideal S10 .f32) : FVec Ideal S10 .f32 :=
  mulf (Host.divf (movedR E H) (broadcastInDim S10 ![] bcast_S_S10 (maximumf (sumBins (movedR E H)) (constant S_ .f32 0x2EDBE6FF#32)))) (binLits 0x41200000#32)

variable (m : (ℓ : Loc nD τ sig) → Buf (Elt Ideal) ℓ) (c : Dev nD)

theorem loss_parts : Value.res_main_v29 m c
    = lossR (m ((c.tc : Thread nD τ).loc main_arg0)) (m ((c.tc : Thread nD τ).loc main_arg1)) (m ((c.tc : Thread nD τ).loc main_arg2))
      (m ((c.tc : Thread nD τ).loc main_arg3)) := by
  unfold Value.res_main_v29; rfl

theorem table_parts : Value.res_main_v57 m c
    = tableR (m ((c.tc : Thread nD τ).loc main_arg3)) (histogram (m ((c.tc : Thread nD τ).loc main_arg0)) (m ((c.tc : Thread nD τ).loc main_arg1))
      (m ((c.tc : Thread nD τ).loc main_arg2))) := by
  unfold Value.res_main_v57; rfl

/-! ## The parts at an index -/

section
variable {P T M E} (hok : ∀ x, Ok (P x) (T x)) (hM : ∀ x, M x = 1)
include hok

theorem clipped_eq : clipped T = T := by
  funext x
  show min (Ideal.ofBits .f32 0x3F800000#32) (max (Ideal.ofBits .f32 0x00000000#32) (T x)) = T x
  obtain ⟨p, t, -, ht, h0, h1, -⟩ := hok x
  rw [ht, Bce.lit_zero, Bce.lit_one, Bce.max_coe, Bce.min_coe, max_eq_right h0, min_eq_right h1]

omit hok in
theorem clip_word : ∀ b : Fin 10, IntOp.minsi 9#32 (IntOp.maxsi 0#32 (BitVec.ofNat 32 b.val)) = BitVec.ofNat 32 b.val := by decide

theorem bins_apply (x : S4096x4096.Idx) : bins P T x = BitVec.ofNat 32 (bin (P x) (T x)).val := by
  rw [bins, clipped_eq hok]
  show IntOp.minsi 9#32 (IntOp.maxsi 0#32 (Ideal.fptosi 32 (Ideal.liftRound Int.floor
    (max (P x - T x) (-(P x - T x)) * Ideal.ofBits .f32 0x41200000#32)))) = _
  rw [Bce.lit_ten, Bce.floor_bin (hok x), Bce.fptosi_nat _ (bin (P x) (T x)).isLt, clip_word]

omit hok in
theorem floor_word : ∀ b : Fin 10, IntOp.maxsi 0#32 (BitVec.ofNat 32 b.val) = BitVec.ofNat 32 b.val := by decide

omit hok in
theorem wrap_word : ∀ b : Fin 10, Scalar.select (IntOp.cmpi .slt (BitVec.ofNat 32 b.val) 0#32) (BitVec.ofNat 32 b.val + 10#32) (BitVec.ofNat 32 b.val)
    = BitVec.ofNat 32 b.val := by decide

theorem entropies_apply (x : S4096x4096.Idx) : entropies P T x = ((raw (P x) (T x) : ℝ) : EReal) := by
  rw [entropies, clipped_eq hok]
  rw [← Bce.raw_reference (hok x), ← Bce.lit_clamp, ← Bce.lit_one]
  rfl

omit hok in
/-- The place in the arrays of a place in a column of indices. -/
def place (y : S4096x4096x1.Idx) : S4096x4096.Idx := Bce.at2 (a := 4096) (b := 4096) (y 0) (y 1)

omit hok in
theorem column_place (w : IVec S4096x4096 32) (y : S4096x4096x1.Idx) :
    broadcastInDim S4096x4096x1 ![0, 1] Gen.bcast_S4096x4096_S4096x4096x1_0_1 w y = w (place y) :=
  congrArg w (funext fun a => match a with | 0 => rfl | 1 => rfl)

/-- A column of indices at a place: the bin. -/
theorem column_apply (y : S4096x4096x1.Idx) : column (bins P T) y = BitVec.ofNat 32 (bin (P (place y)) (T (place y))).val := by
  refine (column_place _ y).trans ?_
  show Scalar.select (IntOp.cmpi .slt (bins P T (place y)) 0#32) (bins P T (place y) + 10#32) (bins P T (place y)) = _
  rw [bins_apply hok, wrap_word]

omit hok in
theorem in_range : ∀ b : Fin 10, IntOp.andi (IntOp.cmpi .sge (BitVec.ofNat 32 b.val) 0#32) (IntOp.cmpi .sle (BitVec.ofNat 32 b.val) 9#32) = 1#1 := by
  decide

omit hok in
theorem foldl_ones {ι : Type} (l : List ι) : l.foldl (fun r _ => IntOp.andi r 1#1) 1#1 = 1#1 := by
  induction l with
  | nil => rfl
  | cons a l ih => exact ih

theorem inTable_apply (x : S4096x4096.Idx) : inTable (column (bins P T)) x = 1#1 := by
  have e : andi (cmpi .sge (column (bins P T)) (broadcastInDim S4096x4096x1 ![] Gen.bcast_S_S4096x4096x1 (constantI S_ 32 0#32)))
      (cmpi .sle (column (bins P T)) (broadcastInDim S4096x4096x1 ![0, 1, 2] Gen.bcast_S1x1x1_S4096x4096x1_0_1_2
        (broadcastInDim S1x1x1 ![2] Gen.bcast_S1_S1x1x1_2 (constantI S1 32 9#32)))) = fun _ => 1#1 := by
    funext y
    show IntOp.andi (IntOp.cmpi .sge (column (bins P T) y) 0#32) (IntOp.cmpi .sle (column (bins P T) y) 9#32) = 1#1
    rw [column_apply hok, in_range]
  unfold inTable
  rw [e]
  unfold Host.reduce
  exact foldl_ones _

omit hok in
theorem word_toInt : ∀ b : Fin 10, (BitVec.ofNat 32 b.val).toInt = (b.val : ℤ) := by decide

omit hok in
theorem place_takeIdx (x : S4096x4096.Idx) : place (takeIdx x) = x := Bce.at2_eta x

omit hok in
theorem gather_bin (idx : IVec S4096x4096x1 32) (x : S4096x4096.Idx) (b : Fin 10) (h : idx (takeIdx x) = BitVec.ofNat 32 b.val) :
    Host.gather gather_S10_S4096x4096x1_S4096x4096_n_0_n_n_0_2_1 E idx x = Bce.cell E b := by
  refine (gather_take_apply (by decide) Gen.gather_S10_S4096x4096x1_S4096x4096_n_0_n_n_0_2_1_wf E idx x).trans ?_
  refine congrArg E (funext fun a => ?_)
  obtain rfl : a = 0 := Subsingleton.elim _ _
  refine Fin.ext ?_
  show min (idx (takeIdx x)).toInt.toNat (10 - 1) = b.val
  rw [h, word_toInt, Int.toNat_natCast]
  have := b.isLt
  omega

/-- The table's entry at the bin. -/
theorem taken_apply (x : S4096x4096.Idx) : taken E (column (bins P T)) x = Bce.cell E (bin (P x) (T x)) := by
  have h := column_apply hok (takeIdx x)
  rw [place_takeIdx] at h
  refine Eq.trans ?_ (gather_bin (E := E) _ x _ h)
  unfold taken select Scalar.select
  rw [inTable_apply hok]
  exact if_pos rfl

omit hok in
/-- The place in a column of indices of a place in the arrays laid flat. -/
def colAt (j : S16777216.Idx) : S16777216x1.Idx := Bce.at2 (a := 16777216) (b := 1) (j 0) 0

omit hok in
theorem flatColumn_place (w : IVec S16777216 32) (j : S16777216.Idx) :
    broadcastInDim S16777216x1 ![0] Gen.bcast_S16777216_S16777216x1_0 w (colAt j) = w j :=
  congrArg w (funext fun a => match a with | 0 => rfl)

theorem flatColumn_apply (j : S16777216.Idx) : flatColumn (flatBins (bins P T)) (colAt j)
    = BitVec.ofNat 32 (shapeCast S16777216 (fun x => (bin (P x) (T x)).val) Gen.shapeCasts_S4096x4096_S16777216 j) := by
  refine (flatColumn_place _ j).trans ?_
  have e : flatBins (bins P T) j = BitVec.ofNat 32 (bin (P (Shape.reshapeEquiv Gen.shapeCasts_S4096x4096_S16777216 j))
      (T (Shape.reshapeEquiv Gen.shapeCasts_S4096x4096_S16777216 j))).val := by
    show IntOp.maxsi 0#32 (bins P T (Shape.reshapeEquiv Gen.shapeCasts_S4096x4096_S16777216 j)) = _
    rw [bins_apply hok, floor_word]
  show Scalar.select (IntOp.cmpi .slt (flatBins (bins P T) j) 0#32) (flatBins (bins P T) j + 10#32) (flatBins (bins P T) j) = _
  rw [e, wrap_word]
  rfl

omit hok in
/-- An update lands in the bin that its index names. -/
theorem lands (idx : IVec S16777216x1 32) (j : S16777216.Idx) (i : S10.Idx) :
    scatter_S10_S16777216x1_S16777216_n_0_0_1.resultIdx? j idx = some i ↔ (idx (colAt j)).toInt = ((i 0).val : ℤ) := by
  have hw : scatter_S10_S16777216x1_S16777216_n_0_0_1.window j 0 = 0 := by
    unfold ScatterDims.window
    exact dif_neg (by decide)
  have hs : scatter_S10_S16777216x1_S16777216_n_0_0_1.start j idx 0 = (idx (colAt j)).toInt := by
    unfold ScatterDims.start
    rw [dif_pos (show (0 : Fin 1) ∈ scatter_S10_S16777216x1_S16777216_n_0_0_1.scatterDimsToOperandDims from List.mem_singleton.mpr rfl)]
    refine congrArg (fun y => (idx y).toInt) (funext fun b => Fin.ext ?_)
    match b with
    | 0 => rfl
    | 1 => rfl
  rw [Routing.resultIdx?_eq_some]
  constructor
  · intro h
    have := h 0
    rw [hs, hw] at this
    simpa using this
  · intro h a
    obtain rfl : a = 0 := Subsingleton.elim _ _
    rw [hs, hw, h]
    simp

omit hok in
theorem lit_small : Ideal.ofBits .f32 0x2EDBE6FF#32 = ((14411519 / 2 ^ 57 : ℝ) : EReal) := by
  simp [Ideal.ofBits, Ideal.ieee, -EReal.coe_mul]; norm_num

end

end Cert.ReferenceIdeal.Hand
-- ==== Proof.RefValue.lean ====
/-
  The reference's two results: the loss from the bins' losses, the new table from the bins' counts.
-/
module

public import proofs.«01_k».proof.Proof.Reference

@[expose] public section

noncomputable section

namespace Cert.ReferenceIdeal.Hand

open Cert.ReferenceIdeal
open Idealize.ShloMosaic Idealize.SL.Sem
open Cert.Bce (Ok bin raw nat cell lossOf tableOf moved scaled)

/-- How often bin `b` occurs in the arrays. -/
def countOn (P T : S4096x4096.Idx → EReal) (b : Fin 10) : ℕ := ∑ x, if bin (P x) (T x) = b then 1 else 0

/-- The losses of bin `b` in the arrays. -/
def lossOn (P T : S4096x4096.Idx → EReal) (b : Fin 10) : ℝ := ∑ x, if bin (P x) (T x) = b then raw (P x) (T x) else 0

/-! ## Sums -/

/-- A sum to a scalar takes every entry. -/
theorem reduceAdd_scalar {s : Shape} {axes : List (Fin s.rank)} (x : FVec Ideal s .f32) (h : s.ReducesTo axes S_) (hu : 0 < S_.numel) (j : S_.Idx) :
    Host.reduceAdd x (constant S_ .f32 0x00000000#32) h hu j = ∑ i, x i := by
  show Ideal.ofBits .f32 0x00000000#32 + ∑ i ∈ Finset.univ.filter (fun i => h.drop i = j), x i = _
  rw [Bce.lit_zero, EReal.coe_zero, zero_add]
  refine Finset.sum_congr (Finset.filter_true_of_mem fun i _ => funext fun a => a.elim0) fun _ _ => rfl

/-- The arrays' number of entries. -/
theorem sum_one : ∑ _x : S4096x4096.Idx, (1 : EReal) = Ideal.ofBits .f32 0x4B800000#32 := by
  have e : ∀ _x : S4096x4096.Idx, (1 : EReal) = nat 1 := fun _ => by rw [nat, Nat.cast_one, EReal.coe_one]
  have hn : S4096x4096.numel = 16777216 := by decide
  rw [Finset.sum_congr rfl fun x _ => e x, Bce.nat_sum, Finset.sum_const, Finset.card_univ, Bce.card_idx, hn, Bce.lit_count, nat]
  norm_num

theorem count_large : max (Ideal.ofBits .f32 0x4B800000#32) (Ideal.ofBits .f32 0x2EDBE6FF#32) = Ideal.ofBits .f32 0x4B800000#32 := by
  rw [Bce.lit_count, lit_small, Bce.max_coe, max_eq_left (by norm_num)]

/-- The counts of the bins together. -/
theorem sum_countOn (P T : S4096x4096.Idx → EReal) : ∑ b, nat (countOn P T b) = Ideal.ofBits .f32 0x4B800000#32 := by
  rw [← sum_one, Bce.nat_sum]
  unfold countOn
  rw [Finset.sum_comm]
  have e : ∀ x : S4096x4096.Idx, (∑ b, if bin (P x) (T x) = b then 1 else 0) = 1 := fun x => by
    rw [Finset.sum_ite_eq, if_pos (Finset.mem_univ _)]
  rw [Finset.sum_congr rfl fun x _ => e x, ← Bce.nat_sum]
  refine Finset.sum_congr rfl fun x _ => ?_
  rw [nat, Nat.cast_one, EReal.coe_one]

/-- The losses, each over its bin's entry, are the bins' losses over the entries. -/
theorem sum_lossOn (P T : S4096x4096.Idx → EReal) (w : Fin 10 → ℝ) : ∑ x, raw (P x) (T x) * w (bin (P x) (T x)) = ∑ b, lossOn P T b * w b := by
  unfold lossOn
  rw [Finset.sum_congr rfl fun b _ => Finset.sum_mul _ _ _, Finset.sum_comm]
  refine Finset.sum_congr rfl fun x _ => ?_
  rw [Finset.sum_congr rfl fun b _ => ite_mul _ _ _ _, Finset.sum_congr rfl fun b _ => by rw [zero_mul], Finset.sum_ite_eq,
    if_pos (Finset.mem_univ _)]

/-! ## The operations at an index -/

section
variable {s : Shape} (A B C D : FVec Ideal s .f32) (i : s.Idx)

theorem weighted_apply : mulf (mulf A (Host.divf B C)) D i = A i * Ideal.div (B i) (C i) * D i := rfl

theorem quotient_apply : Host.divf A (maximumf B C) i = Ideal.div (A i) (max (B i) (C i)) := rfl

theorem larger_apply : maximumf A B i = max (A i) (B i) := rfl

theorem moved_apply (w x y z : FVec Ideal s .f32) : addf (mulf A w) (mulf x (mulf (Host.divf B y) z)) i = A i * w i + x i * (Ideal.div (B i) (y i) * z i) := rfl

theorem scaled_apply : mulf (Host.divf A B) C i = Ideal.div (A i) (B i) * C i := rfl

end

theorem lits_apply (b : BitVec 32) (x : S4096x4096.Idx) : lits b x = Ideal.ofBits .f32 b := rfl

theorem binLits_apply (b : BitVec 32) (i : S10.Idx) : binLits b i = Ideal.ofBits .f32 b := rfl

theorem scalar_apply (b : BitVec 32) (j : S_.Idx) : (constant S_ .f32 b : FVec Ideal S_ .f32) j = Ideal.ofBits .f32 b := rfl

/-- One value at every bin. -/
theorem spread_apply (x : FVec Ideal S_ .f32) (i : S10.Idx) : broadcastInDim S10 ![] Gen.bcast_S_S10 x i = x (fun a => a.elim0) :=
  congrArg x (funext fun a => a.elim0)

theorem scatter_apply (d : ScatterDims S10 S16777216x1 S16777216) (A : FVec Ideal S10 .f32) (idx : IVec S16777216x1 32) (U : FVec Ideal S16777216 .f32)
    (i : S10.Idx) : Host.scatterAdd d A idx U i = A i + ∑ j ∈ Finset.univ.filter (fun j => d.resultIdx? j idx = some i), U j := rfl

variable {P T M : FVec Ideal S4096x4096 .f32} {E : FVec Ideal S10 .f32}

/-! ## The loss -/

theorem term_apply (hok : ∀ x, Ok (P x) (T x)) (hM : ∀ x, M x = 1) (h0 : ∀ b, cell E b ≠ 0) (x : S4096x4096.Idx) :
    mulf (mulf (entropies P T) (Host.divf (lits 0x3F800000#32) (taken E (column (bins P T))))) M x
      = ((raw (P x) (T x) * Bce.invOf E (bin (P x) (T x)) : ℝ) : EReal) := by
  rw [weighted_apply, lits_apply, hM, mul_one, entropies_apply hok, taken_apply hok, Bce.lit_one, Bce.div_real 1 (h0 _), ← EReal.coe_mul, one_mul]
  rfl

theorem lossR_eq (hok : ∀ x, Ok (P x) (T x)) (hM : ∀ x, M x = 1) (h0 : ∀ b, cell E b ≠ 0) (j : S_.Idx) :
    lossR P T M E j = lossOf E (lossOn P T) := by
  have e1 : sumAll M j = Ideal.ofBits .f32 0x4B800000#32 :=
    (reduceAdd_scalar M _ _ j).trans ((Finset.sum_congr rfl fun x _ => hM x).trans sum_one)
  have e2 : sumAll (mulf (mulf (entropies P T) (Host.divf (lits 0x3F800000#32) (taken E (column (bins P T))))) M) j
      = ((∑ b, lossOn P T b * Bce.invOf E b : ℝ) : EReal) :=
    (reduceAdd_scalar _ _ _ j).trans ((Finset.sum_congr rfl fun x _ => term_apply hok hM h0 x).trans
      ((Bce.ereal_sum_coe _ _).trans (congrArg _ (sum_lossOn P T _))))
  rw [lossR, quotient_apply, scalar_apply, e1, e2, count_large, Bce.div_count, lossOf]

/-! ## The new table -/

theorem small_eq : ∀ a b : Fin 10, (BitVec.ofNat 32 a.val).toInt = (b.val : ℤ) ↔ a = b := by
  intro a b
  rw [word_toInt, Int.natCast_inj, Fin.val_inj]

theorem histogram_apply (hok : ∀ x, Ok (P x) (T x)) (hM : ∀ x, M x = 1) (b : Fin 10) : histogram P T M (Bce.at1 b) = nat (countOn P T b) := by
  rw [histogram, scatter_apply, binLits_apply, Bce.lit_zero, EReal.coe_zero, zero_add, Finset.sum_filter]
  have e : ∀ j : S16777216.Idx, (if scatter_S10_S16777216x1_S16777216_n_0_0_1.resultIdx? j (flatColumn (flatBins (bins P T))) = some (Bce.at1 b)
        then shapeCast S16777216 M Gen.shapeCasts_S4096x4096_S16777216 j else 0)
      = shapeCast S16777216 (fun x => nat (if bin (P x) (T x) = b then 1 else 0)) Gen.shapeCasts_S4096x4096_S16777216 j := fun j => by
    have hl := lands (flatColumn (flatBins (bins P T))) j (Bce.at1 b)
    rw [flatColumn_apply hok] at hl
    have hl' := hl.trans (small_eq (bin (P (Shape.reshapeEquiv Gen.shapeCasts_S4096x4096_S16777216 j))
      (T (Shape.reshapeEquiv Gen.shapeCasts_S4096x4096_S16777216 j))) b)
    show _ = nat (if bin (P (Shape.reshapeEquiv Gen.shapeCasts_S4096x4096_S16777216 j))
      (T (Shape.reshapeEquiv Gen.shapeCasts_S4096x4096_S16777216 j)) = b then 1 else 0)
    by_cases h : bin (P (Shape.reshapeEquiv Gen.shapeCasts_S4096x4096_S16777216 j))
      (T (Shape.reshapeEquiv Gen.shapeCasts_S4096x4096_S16777216 j)) = b
    · rw [if_pos (hl'.2 h), if_pos h]
      refine (hM _).trans ?_
      rw [nat, Nat.cast_one, EReal.coe_one]
    · rw [if_neg (fun h' => h (hl'.1 h')), if_neg h, Bce.nat_zero]
  rw [Finset.sum_congr rfl fun j _ => e j]
  refine (Bce.sum_shapeCast (s := S4096x4096) (t := S16777216) (fun x => nat (if bin (P x) (T x) = b then 1 else 0))
    Gen.shapeCasts_S4096x4096_S16777216).trans ?_
  rw [Bce.nat_sum]
  rfl

/-- The bins are counted by their number. -/
theorem sum_bins (f : S10.Idx → EReal) : ∑ i, f i = ∑ b, cell f b := by
  refine Fintype.sum_bijective (fun i : S10.Idx => (i 0 : Fin 10)) ⟨fun i j h => ?_, fun b => ⟨Bce.at1 b, rfl⟩⟩ _ _ fun i => ?_
  · funext a; obtain rfl : a = 0 := Subsingleton.elim _ _; exact h
  · refine congrArg f ?_
    funext a; obtain rfl : a = 0 := Subsingleton.elim _ _; rfl

theorem movedR_apply (hok : ∀ x, Ok (P x) (T x)) (hM : ∀ x, M x = 1) (b : Fin 10) :
    movedR E (histogram P T M) (Bce.at1 b) = moved (cell E b) (nat (countOn P T b)) := by
  have e1 : ∀ j : S_.Idx, sumBins (histogram P T M) j = Ideal.ofBits .f32 0x4B800000#32 := fun j =>
    (reduceAdd_scalar (histogram P T M) _ _ j).trans ((sum_bins _).trans
      ((Finset.sum_congr rfl fun b _ => histogram_apply hok hM b).trans (sum_countOn P T)))
  rw [movedR, moved_apply, spread_apply, larger_apply, scalar_apply, e1, count_large, histogram_apply hok hM, binLits_apply, binLits_apply,
    binLits_apply, moved, cell]

theorem tableR_eq (hok : ∀ x, Ok (P x) (T x)) (hM : ∀ x, M x = 1) (b : Fin 10) :
    tableR E (histogram P T M) (Bce.at1 b) = tableOf E (countOn P T) b := by
  have e1 : ∀ j : S_.Idx, sumBins (movedR E (histogram P T M)) j = ∑ b, moved (cell E b) (nat (countOn P T b)) := fun j =>
    (reduceAdd_scalar (movedR E (histogram P T M)) _ _ j).trans ((sum_bins _).trans
      (Finset.sum_congr rfl fun b _ => movedR_apply hok hM b))
  rw [tableR, scaled_apply, spread_apply, larger_apply, scalar_apply, binLits_apply, e1, movedR_apply hok hM, tableOf, scaled]

end Cert.ReferenceIdeal.Hand
-- ==== Proof.Value.lean ====
/-
  The kernel's two results and the reference's are the same.
-/
module

public import proofs.«01_k».proof.Proof.Fetched
public import proofs.«01_k».proof.Proof.Inputs
public import proofs.«01_k».proof.Proof.RefValue

@[expose] public section

noncomputable section

namespace Cert.Value

open Idealize.ShloMosaic Idealize.SL.Sem
open Cert.Bce (Ok Carry St cell cell1 at1 hits lossIn hitsUp lossUp lossOf tableOf flagOf)
open Cert.ReferenceIdeal.Hand (countOn lossOn)

/-! ## The sixteen blocks together -/

/-- Block `n` of an array. -/
def rowsOf (A : Bce.S4096x4096.Idx → EReal) (n : ℕ) : FVec Ideal Bce.S256x4096 .f32 := fun i => A (Bce.blockAt (Fin.ofNat 16 n) i)

theorem rowsOf_eq (A : Bce.S4096x4096.Idx → EReal) (n : Fin 16) (i) : rowsOf A n.val i = A (Bce.blockAt n i) :=
  congrArg (fun k => A (Bce.blockAt k i)) (Fin.ext (Nat.mod_eq_of_lt n.isLt))

section
variable (A B : Bce.S4096x4096.Idx → EReal)

/-- The blocks' counts are the arrays' count. -/
theorem hits_all (b : Fin 10) : hitsUp (rowsOf A) (rowsOf B) 16 b = countOn A B b := by
  rw [hitsUp, countOn, Bce.sum_blocks, Finset.sum_range]
  exact Finset.sum_congr rfl fun n _ => Finset.sum_congr rfl fun i _ => by rw [rowsOf_eq, rowsOf_eq]

/-- The blocks' losses are the arrays' losses. -/
theorem loss_all (b : Fin 10) : lossUp (rowsOf A) (rowsOf B) 16 b = lossOn A B b := by
  rw [lossUp, lossOn, Bce.sum_blocks, Finset.sum_range]
  exact Finset.sum_congr rfl fun n _ => Finset.sum_congr rfl fun i _ => by rw [rowsOf_eq, rowsOf_eq]
end

/-! ## The kernel -/

section
open Cert.KernelIdeal Cert.KernelIdeal.Gen Cert.KernelIdeal.Hand

theorem exact_consts : (consts (F := Ideal)).Exact := ⟨rfl, rfl, rfl⟩

theorem first_iff (t : Fin cfg0.N) : Bce.nz (Scalar.cmpi .eq (num t) 0#32) = 1#1 ↔ t.val = 0 := by
  revert t; decide

theorem last_bit (t : Fin cfg0.N) (h : t.val = 15) : Bce.nz (Scalar.cmpi .eq (num t) 15#32) = 1#1 := by
  revert t; decide

/-- The first argument, as entries. -/
def preds (m : (ℓ : Loc nD τ sig) → Buf (Elt Ideal) ℓ) (c : Dev nD) : Bce.S4096x4096.Idx → EReal := m ((c.tc : Thread nD τ).loc main_arg0)
/-- The second. -/
def targets (m : (ℓ : Loc nD τ sig) → Buf (Elt Ideal) ℓ) (c : Dev nD) : Bce.S4096x4096.Idx → EReal := m ((c.tc : Thread nD τ).loc main_arg1)
/-- The mask. -/
def masks (m : (ℓ : Loc nD τ sig) → Buf (Elt Ideal) ℓ) (c : Dev nD) : Bce.S4096x4096.Idx → EReal := m ((c.tc : Thread nD τ).loc main_arg2)
/-- The table. -/
def table (m : (ℓ : Loc nD τ sig) → Buf (Elt Ideal) ℓ) (c : Dev nD) : Bce.S10.Idx → EReal := m ((c.tc : Thread nD τ).loc main_arg3)

/-- What the claim asks of the arguments. -/
structure Good (m : (ℓ : Loc nD τ sig) → Buf (Elt Ideal) ℓ) : Prop where
  ok : ∀ c x, Ok (preds m c x) (targets m c x)
  mask : ∀ c x, masks m c x = 1
  ne : ∀ c b, cell (table m c) b ≠ 0

variable (m : (ℓ : Loc nD τ sig) → Buf (Elt Ideal) ℓ)

/-- Between the points the scratch buffers carry the sums of the blocks so far; the results are the loss and the new table. -/
def track : Track (F := Ideal) where
  inv c n st := 0 < n → n < 16 → Carry (rowsOf (preds m c)) (rowsOf (targets m c)) (table m c) n st
  loss c _ := lossOf (table m c) (lossOn (preds m c) (targets m c))
  emao c i := tableOf (table m c) (countOn (preds m c) (targets m c)) (i 0)

variable {m}

/-- The body of a point, up to the results. -/
theorem point_run (hm : Good m) (c : Dev nD) (t : Fin cfg0.N) (L : Bce.S1.Idx → EReal) (O : Bce.S10.Idx → EReal) (st : St Ideal)
    (h : (track m).inv c t.val st) :
    ∃ st', Bce.step consts (num t) (enter m c t L O st) = (Bce.final consts (num t) (flagOf (table m c))).run (fun _ st => st) st'
      ∧ st'.ema = table m c ∧ Carry (rowsOf (preds m c)) (rowsOf (targets m c)) (table m c) (t.val + 1) st' := by
  have hlt : t.val < 16 := lt_of_lt_of_eq t.isLt N_0
  have hp : (enter m c t L O st).p = rowsOf (preds m c) t.val :=
    funext fun i => (fetched_1 m c t ⟨t.val, hlt⟩ rfl i).trans (rowsOf_eq (preds m c) ⟨t.val, hlt⟩ i).symm
  have ht : (enter m c t L O st).t = rowsOf (targets m c) t.val :=
    funext fun i => (fetched_2 m c t ⟨t.val, hlt⟩ rfl i).trans (rowsOf_eq (targets m c) ⟨t.val, hlt⟩ i).symm
  have hE : (enter m c t L O st).ema = table m c := funext fun i => fetched_0 m c t i
  have hc : 0 < t.val → Carry (rowsOf (preds m c)) (rowsOf (targets m c)) (table m c) t.val (enter m c t L O st) := fun h0 =>
    ⟨(h h0 hlt).flag, (h h0 hlt).vacc, (h h0 hlt).facc, (h h0 hlt).clear, (h h0 hlt).count, (h h0 hlt).loss⟩
  obtain ⟨st', hr, he, h'⟩ := Bce.body_run exact_consts (first_iff t) hp ht hE (fun i => hm.ok c _) hc
  exact ⟨st', hr _, he, h'⟩

theorem s1_eq {f g : Bce.S1.Idx → EReal} (h : cell1 f = cell1 g) : f = g := by
  funext i
  have e : i = at1 0 := funext fun a => Fin.ext (by
    match a with
    | 0 => have : (i 0).val < 1 := (i 0).isLt
           show (i 0).val = 0; omega)
  rw [e]; exact h

theorem s10_eq {f g : Bce.S10.Idx → EReal} (h : ∀ b, cell f b = cell g b) : f = g := by
  funext i
  have e : i = at1 (i 0) := funext fun a => match a with | 0 => rfl
  rw [e]; exact h (i 0)

theorem kept (hm : Good m) : Kept m (track m) false where
  step c t L O st h h0 h16 := by
    obtain ⟨st', hs, _, h'⟩ := point_run hm c t L O st h
    rw [hs, Bce.final_of_ne _ _ _ _ (not_last t (by omega)).1]
    exact h'
  last _ c t L O st h15 h := by
    obtain ⟨st', hs, he, h'⟩ := point_run hm c t L O st h
    rw [h15] at h'
    have hf := Bce.final_run exact_consts (last_bit t h15) he (hm.ne c) h' (fun _ st => st)
    rw [hs]
    refine ⟨s1_eq (hf.1.trans ?_), s10_eq fun b => (hf.2 b).trans ?_⟩
    · exact congrArg (lossOf (table m c)) (funext fun b => loss_all _ _ b)
    · exact congrArg (fun C => tableOf (table m c) C b) (funext fun b => hits_all _ _ b)

/-- The precondition, entry by entry. -/
theorem good_of (h : letI := Cert.Pre_inputs_in_range.Gen.facts; Cert.Pre_KernelIdeal_inputs_in_range m) : Good m where
  ok c x := Inputs.pairs_ok (h c).1 (h c).2.1 (h c).2.2.1 x
  mask c x := Inputs.mask_one (h c).2.2.2.1 x
  ne c b := Inputs.table_ne (h c).2.2.2.2 b

end

/-! ## The reference -/

section
variable {m : (ℓ : Loc KernelIdeal.nD KernelIdeal.τ KernelIdeal.sig) → Buf (Elt Ideal) ℓ}
variable {m' : (ℓ : Loc ReferenceIdeal.nD ReferenceIdeal.τ ReferenceIdeal.sig) → Buf (Elt Ideal) ℓ} {c : Dev KernelIdeal.nD}

theorem reference_loss (hm : Good m)
    (h0 : (m' ((c.tc : Thread ReferenceIdeal.nD ReferenceIdeal.τ).loc ReferenceIdeal.main_arg0) : Bce.S4096x4096.Idx → EReal) = preds m c)
    (h1 : (m' ((c.tc : Thread ReferenceIdeal.nD ReferenceIdeal.τ).loc ReferenceIdeal.main_arg1) : Bce.S4096x4096.Idx → EReal) = targets m c)
    (h2 : (m' ((c.tc : Thread ReferenceIdeal.nD ReferenceIdeal.τ).loc ReferenceIdeal.main_arg2) : Bce.S4096x4096.Idx → EReal) = masks m c)
    (h3 : (m' ((c.tc : Thread ReferenceIdeal.nD ReferenceIdeal.τ).loc ReferenceIdeal.main_arg3) : Bce.S10.Idx → EReal) = table m c) :
    (ReferenceIdeal.Value.res_main_v29 m' c : ReferenceIdeal.S_.Idx → EReal) = fun _ => lossOf (table m c) (lossOn (preds m c) (targets m c)) := by
  refine (ReferenceIdeal.Hand.loss_parts m' c).trans ?_
  rw [h0, h1, h2, h3]
  exact funext fun j => ReferenceIdeal.Hand.lossR_eq (hm.ok c) (hm.mask c) (hm.ne c) j

theorem reference_table (hm : Good m)
    (h0 : (m' ((c.tc : Thread ReferenceIdeal.nD ReferenceIdeal.τ).loc ReferenceIdeal.main_arg0) : Bce.S4096x4096.Idx → EReal) = preds m c)
    (h1 : (m' ((c.tc : Thread ReferenceIdeal.nD ReferenceIdeal.τ).loc ReferenceIdeal.main_arg1) : Bce.S4096x4096.Idx → EReal) = targets m c)
    (h2 : (m' ((c.tc : Thread ReferenceIdeal.nD ReferenceIdeal.τ).loc ReferenceIdeal.main_arg2) : Bce.S4096x4096.Idx → EReal) = masks m c)
    (h3 : (m' ((c.tc : Thread ReferenceIdeal.nD ReferenceIdeal.τ).loc ReferenceIdeal.main_arg3) : Bce.S10.Idx → EReal) = table m c) :
    (ReferenceIdeal.Value.res_main_v57 m' c : Bce.S10.Idx → EReal) = (track m).emao c := by
  refine (ReferenceIdeal.Hand.table_parts m' c).trans ?_
  rw [h0, h1, h2, h3]
  exact s10_eq fun b => ReferenceIdeal.Hand.tableR_eq (hm.ok c) (hm.mask c) b

end

/-! ## The claim -/

theorem algebraic : letI := Cert.KernelIdeal.Gen.facts; letI := Cert.ReferenceIdeal.Gen.facts; letI := Cert.Pre_inputs_in_range.Gen.facts;
    Cert.algebraic_KernelIdeal_ReferenceIdeal_pre_inputs_in_range := by
  intro m g m' g' hpre hargs
  have hm : Good m := good_of hpre
  refine ⟨fun c => (fun _ => lossOf (table m c) (lossOn (preds m c) (targets m c)) : KernelIdeal.S_.Idx → EReal), fun c => (track m).emao c, ?_, ?_⟩
  · refine (θ_run KernelIdeal.defs _ _).mono (fun r h c => ?_)
      (KernelIdeal.Hand.value_run m g (track m) (kept hm) fun c st h => absurd h (lt_irrefl 0))
    exact ⟨(h c).1.1, (h c).1.2, (h c).2⟩
  · refine (θ_run ReferenceIdeal.defs _ _).mono (fun r h c => ?_) (ReferenceIdeal.Value.run (F := Ideal) m' g')
    have e := hargs c
    exact ⟨(h c).1.trans (reference_loss hm e.1 e.2.1 e.2.2.1 e.2.2.2), (h c).2.1.trans (reference_table hm e.1 e.2.1 e.2.2.1 e.2.2.2), (h c).2.2⟩

end Cert.Value
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_inputs_in_range
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_inputs_in_range.Gen.facts,
  Frames.kernel, Frames.ideal, Frames.ideal_pre, Frames.reference, Frames.reference_pre, Frames.preserves, Cert.Value.algebraic⟩

end Cert.Proof

end
